-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_3)) (v2 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_3) = v1 c
          ∧ r.2.mem ((c.tc : Thread Cert.KernelIdeal.nD Cert.KernelIdeal.τ).loc Cert.KernelIdeal.main_v1_4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S16384x32 : Shape := ⟨2, ![16384, 32]⟩
abbrev S16384x1 : Shape := ⟨2, ![16384, 1]⟩
abbrev S10x1x4 : Shape := ⟨3, ![10, 1, 4]⟩
abbrev S10 : Shape := ⟨1, ![10]⟩
abbrev S128x10 : Shape := ⟨2, ![128, 10]⟩
abbrev S256x80 : Shape := ⟨2, ![256, 80]⟩
abbrev S256 : Shape := ⟨1, ![256]⟩
abbrev S128x256 : Shape := ⟨2, ![128, 256]⟩
abbrev S128 : Shape := ⟨1, ![128]⟩
abbrev S16384x8x4 : Shape := ⟨3, ![16384, 8, 4]⟩
abbrev S10x4 : Shape := ⟨2, ![10, 4]⟩
abbrev S16384x8x10 : Shape := ⟨3, ![16384, 8, 10]⟩
abbrev S_ : Shape := ⟨0, ![]⟩
abbrev S131072x10 : Shape := ⟨2, ![131072, 10]⟩
abbrev S131072 : Shape := ⟨1, ![131072]⟩
abbrev S131072x1 : Shape := ⟨2, ![131072, 1]⟩
abbrev S10x128 : Shape := ⟨2, ![10, 128]⟩
abbrev S131072x128 : Shape := ⟨2, ![131072, 128]⟩
abbrev S1x128 : Shape := ⟨2, ![1, 128]⟩

class Facts : Prop where
  shapeCasts_S16384x32_S16384x8x4 : S16384x32.ShapeCasts S16384x8x4
  shapeCasts_S10x1x4_S10x4 : S10x1x4.ShapeCasts S10x4
  bcast_S_S16384x8x10 : S_.BroadcastsInDim S16384x8x10 (![] : Fin 0 → Fin S16384x8x10.rank)
  shapeCasts_S16384x8x10_S131072x10 : S16384x8x10.ShapeCasts S131072x10
  reducesTo_S131072x10_S131072_d1 : S131072x10.ReducesTo [1] S131072
  h_S_ : 0 < S_.numel
  bcast_S131072_S131072x1_0 : S131072.BroadcastsInDim S131072x1 (![0] : Fin 1 → Fin S131072x1.rank)
  bcast_S_S131072x10 : S_.BroadcastsInDim S131072x10 (![] : Fin 0 → Fin S131072x10.rank)
  transposes_S128x10_S10x128_1_0 : S128x10.Transposes [1, 0] S10x128
  bcast_S131072x1_S131072x128_0_1 : S131072x1.BroadcastsInDim S131072x128 (![0, 1] : Fin 2 → Fin S131072x128.rank)
  reducesTo_S128x10_S128_d1 : S128x10.ReducesTo [1] S128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  reducesTo_S131072x128_S131072_d1 : S131072x128.ReducesTo [1] S131072
  bcast_S_S16384x32 : S_.BroadcastsInDim S16384x32 (![] : Fin 0 → Fin S16384x32.rank)
  bcast_S_S10x1x4 : S_.BroadcastsInDim S10x1x4 (![] : Fin 0 → Fin S10x1x4.rank)
  bcast_S_S128x10 : S_.BroadcastsInDim S128x10 (![] : Fin 0 → Fin S128x10.rank)
  bcast_S_S10 : S_.BroadcastsInDim S10 (![] : Fin 0 → Fin S10.rank)
  bcast_S_S256 : S_.BroadcastsInDim S256 (![] : Fin 0 → Fin S256.rank)
  bcast_S_S128 : S_.BroadcastsInDim S128 (![] : Fin 0 → Fin S128.rank)
  bcast_S_S131072 : S_.BroadcastsInDim S131072 (![] : Fin 0 → Fin S131072.rank)
  dot_S16384x8x4_S10x4_S16384x8x10_2_1_01_0_n_n_wf : DotDims.WF S16384x8x4 S10x4 S16384x8x10 [2] [1] [0, 1] [0] [] []
  dot_S131072x10_S10x128_S131072x128_1_0_0_1_n_n_wf : DotDims.WF S131072x10 S10x128 S131072x128 [1] [0] [0] [1] [] []

variable [Facts]

def dot_S16384x8x4_S10x4_S16384x8x10_2_1_01_0_n_n : DotDims S16384x8x4 S10x4 S16384x8x10 where
  lhsContracting := [2]
  rhsContracting := [1]
  lhsNonContracting := [0, 1]
  rhsNonContracting := [0]
  lhsBatch := []
  rhsBatch := []
  wf := dot_S16384x8x4_S10x4_S16384x8x10_2_1_01_0_n_n_wf
def dot_S131072x10_S10x128_S131072x128_1_0_0_1_n_n : DotDims S131072x10 S10x128 S131072x128 where
  lhsContracting := [1]
  rhsContracting := [0]
  lhsNonContracting := [0]
  rhsNonContracting := [1]
  lhsBatch := []
  rhsBatch := []
  wf := dot_S131072x10_S10x128_S131072x128_1_0_0_1_n_n_wf
def fn_part2 {F : FTy → Type} [FloatOps F] (main_arg8 : FVec F S128 .f32) (main_v23 : IVec S131072x128 1) (main_v26 : IVec S16384x32 1) (main_v29 : IVec S10x1x4 1) (main_v32 : IVec S128x10 1) (main_v33 : IVec S16384x1 1) (main_v35 : IVec S10 1) (main_v37 : IVec S256 1) : IVec S16384x32 1 × IVec S10x1x4 1 × IVec S128x10 1 × IVec S16384x1 1 × IVec S10 1 × IVec S256 1 × IVec S128 1 × IVec S131072 1 :=
  let main_cst_9 : FVec F S_ .f32 := constant S_ .f32 0x00000000#32
  let main_v38 : FVec F S128 .f32 := broadcastInDim S128 ![] bcast_S_S128 main_cst_9
  let main_v39 : IVec S128 1 := cmpf .oeq main_arg8 main_v38
  let main_v40 : FVec F S131072x128 .f32 := uitofp .f32 main_v23
  let main_cst_10 : FVec F S_ .f32 := constant S_ .f32 0x00000000#32
  let main_v41 : FVec F S131072 .f32 := (fun x v => Host.reduceAdd x v reducesTo_S131072x128_S131072_d1 h_S_) main_v40 main_cst_10
  let main_cst_11 : FVec F S_ .f32 := constant S_ .f32 0x3F800000#32
  let main_v42 : FVec F S131072 .f32 := broadcastInDim S131072 ![] bcast_S_S131072 main_cst_11
  let main_v43 : IVec S131072 1 := cmpf .oeq main_v41 main_v42
  (main_v26, main_v29, main_v32, main_v33, main_v35, main_v37, main_v39, main_v43)

def fn_part1 {F : FTy → Type} [FloatOps F] (main_arg0 : FVec F S16384x32 .f32) (main_arg1 : IVec S16384x1 1) (main_arg2 : FVec F S10x1x4 .f32) (main_arg3 : FVec F S10 .f32) (main_arg4 : FVec F S128x10 .f32) (main_arg6 : FVec F S256 .f32) (main_arg8 : FVec F S128 .f32) (main_v19 : FVec F S131072x128 .f32) : IVec S16384x32 1 × IVec S10x1x4 1 × IVec S128x10 1 × IVec S16384x1 1 × IVec S10 1 × IVec S256 1 × IVec S128 1 × IVec S131072 1 :=
  let main_cst_3 : FVec F S_ .f32 := constant S_ .f32 0x7F800000#32
  let main_v20 : FVec F S131072 .f32 := (fun x v => Host.reduce FloatOps.minimumf x v reducesTo_S131072x128_S131072_d1 h_S_) main_v19 main_cst_3
  let main_v21 : FVec F S131072x1 .f32 := broadcastInDim S131072x1 ![0] bcast_S131072_S131072x1_0 main_v20
  let main_v22 : FVec F S131072x128 .f32 := broadcastInDim S131072x128 ![0, 1] bcast_S131072x1_S131072x128_0_1 main_v21
  let main_v23 : IVec S131072x128 1 := cmpf .oeq main_v19 main_v22
  let main_v24 : FVec F S16384x32 .f32 := Host.absf main_arg0
  let main_cst_4 : FVec F S_ .f32 := constant S_ .f32 0x7F800000#32
  let main_v25 : FVec F S16384x32 .f32 := broadcastInDim S16384x32 ![] bcast_S_S16384x32 main_cst_4
  let main_v26 : IVec S16384x32 1 := cmpf .olt main_v24 main_v25
  let main_v27 : FVec F S10x1x4 .f32 := Host.absf main_arg2
  let main_cst_5 : FVec F S_ .f32 := constant S_ .f32 0x7F800000#32
  let main_v28 : FVec F S10x1x4 .f32 := broadcastInDim S10x1x4 ![] bcast_S_S10x1x4 main_cst_5
  let main_v29 : IVec S10x1x4 1 := cmpf .olt main_v27 main_v28
  let main_v30 : FVec F S128x10 .f32 := Host.absf main_arg4
  let main_cst_6 : FVec F S_ .f32 := constant S_ .f32 0x7F800000#32
  let main_v31 : FVec F S128x10 .f32 := broadcastInDim S128x10 ![] bcast_S_S128x10 main_cst_6
  let main_v32 : IVec S128x10 1 := cmpf .olt main_v30 main_v31
  let main_v33 : IVec S16384x1 1 := noti main_arg1
  let main_cst_7 : FVec F S_ .f32 := constant S_ .f32 0x00000000#32
  let main_v34 : FVec F S10 .f32 := broadcastInDim S10 ![] bcast_S_S10 main_cst_7
  let main_v35 : IVec S10 1 := cmpf .oeq main_arg3 main_v34
  let main_cst_8 : FVec F S_ .f32 := constant S_ .f32 0x00000000#32
  let main_v36 : FVec F S256 .f32 := broadcastInDim S256 ![] bcast_S_S256 main_cst_8
  let main_v37 : IVec S256 1 := cmpf .oeq main_arg6 main_v36
  fn_part2 (F := F) main_arg8 main_v23 main_v26 main_v29 main_v32 main_v33 main_v35 main_v37

def fn {F : FTy → Type} [FloatOps F] (main_arg0 : FVec F S16384x32 .f32) (main_arg1 : IVec S16384x1 1) (main_arg2 : FVec F S10x1x4 .f32) (main_arg3 : FVec F S10 .f32) (main_arg4 : FVec F S128x10 .f32) (main_arg5 : FVec F S256x80 .f32) (main_arg6 : FVec F S256 .f32) (main_arg7 : FVec F S128x256 .f32) (main_arg8 : FVec F S128 .f32) : IVec S16384x32 1 × IVec S10x1x4 1 × IVec S128x10 1 × IVec S16384x1 1 × IVec S10 1 × IVec S256 1 × IVec S128 1 × IVec S131072 1 :=
  let main_v0 : FVec F S16384x8x4 .f32 := shapeCast S16384x8x4 main_arg0 shapeCasts_S16384x32_S16384x8x4
  let main_v1 : FVec F S10x4 .f32 := shapeCast S10x4 main_arg2 shapeCasts_S10x1x4_S10x4
  let main_v2 : FVec F S16384x8x10 .f32 := (fun l r => Host.dotGeneral dot_S16384x8x4_S10x4_S16384x8x10_2_1_01_0_n_n none l r) main_v0 main_v1
  let main_cst : FVec F S_ .f32 := constant S_ .f32 0x00000000#32
  let main_v3 : FVec F S16384x8x10 .f32 := broadcastInDim S16384x8x10 ![] bcast_S_S16384x8x10 main_cst
  let main_v4 : FVec F S16384x8x10 .f32 := maximumf main_v2 main_v3
  let main_v5 : FVec F S131072x10 .f32 := shapeCast S131072x10 main_v4 shapeCasts_S16384x8x10_S131072x10
  let main_v6 : FVec F S131072x10 .f32 := mulf main_v5 main_v5
  let main_cst_0 : FVec F S_ .f32 := constant S_ .f32 0x00000000#32
  let main_v7 : FVec F S131072 .f32 := (fun x v => Host.reduceAdd x v reducesTo_S131072x10_S131072_d1 h_S_) main_v6 main_cst_0
  let main_v8 : FVec F S131072x1 .f32 := broadcastInDim S131072x1 ![0] bcast_S131072_S131072x1_0 main_v7
  let main_cst_1 : FVec F S_ .f32 := constant S_ .f32 0x40000000#32
  let main_v9 : FVec F S131072x10 .f32 := broadcastInDim S131072x10 ![] bcast_S_S131072x10 main_cst_1
  let main_v10 : FVec F S131072x10 .f32 := mulf main_v9 main_v5
  let main_v11 : FVec F S10x128 .f32 := (transpose S10x128 [1, 0] · transposes_S128x10_S10x128_1_0) main_arg4
  let main_v12 : FVec F S131072x128 .f32 := (fun l r => Host.dotGeneral dot_S131072x10_S10x128_S131072x128_1_0_0_1_n_n none l r) main_v10 main_v11
  let main_v13 : FVec F S131072x128 .f32 := broadcastInDim S131072x128 ![0, 1] bcast_S131072x1_S131072x128_0_1 main_v8
  let main_v14 : FVec F S131072x128 .f32 := subf main_v13 main_v12
  let main_v15 : FVec F S128x10 .f32 := mulf main_arg4 main_arg4
  let main_cst_2 : FVec F S_ .f32 := constant S_ .f32 0x00000000#32
  let main_v16 : FVec F S128 .f32 := (fun x v => Host.reduceAdd x v reducesTo_S128x10_S128_d1 h_S_) main_v15 main_cst_2
  let main_v17 : FVec F S1x128 .f32 := broadcastInDim S1x128 ![1] bcast_S128_S1x128_1 main_v16
  let main_v18 : FVec F S131072x128 .f32 := broadcastInDim S131072x128 ![0, 1] bcast_S1x128_S131072x128_0_1 main_v17
  let main_v19 : FVec F S131072x128 .f32 := addf main_v14 main_v18
  fn_part1 (F := F) main_arg0 main_arg1 main_arg2 main_arg3 main_arg4 main_arg6 main_arg8 main_v19
-- ==== Kernel.lean ====
abbrev S16384x32 : Shape := ⟨2, ![16384, 32]⟩
abbrev S16384x1 : Shape := ⟨2, ![16384, 1]⟩
abbrev S10x1x4 : Shape := ⟨3, ![10, 1, 4]⟩
abbrev S10 : Shape := ⟨1, ![10]⟩
abbrev S128x10 : Shape := ⟨2, ![128, 10]⟩
abbrev S256x80 : Shape := ⟨2, ![256, 80]⟩
abbrev S256 : Shape := ⟨1, ![256]⟩
abbrev S128x256 : Shape := ⟨2, ![128, 256]⟩
abbrev S128 : Shape := ⟨1, ![128]⟩
abbrev S10x4 : Shape := ⟨2, ![10, 4]⟩
abbrev S16384x128 : Shape := ⟨2, ![16384, 128]⟩
abbrev S1024x1 : Shape := ⟨2, ![1024, 1]⟩
abbrev S1x1 : Shape := ⟨2, ![1, 1]⟩
abbrev S4096x32 : Shape := ⟨2, ![4096, 32]⟩
abbrev S4096x128 : Shape := ⟨2, ![4096, 128]⟩
abbrev S128x32 : Shape := ⟨2, ![128, 32]⟩
abbrev S1024x128 : Shape := ⟨2, ![1024, 128]⟩
abbrev S256x128 : Shape := ⟨2, ![256, 128]⟩
abbrev S6x4 : Shape := ⟨2, ![6, 4]⟩
abbrev S16x4 : Shape := ⟨2, ![16, 4]⟩
abbrev S128x4 : Shape := ⟨2, ![128, 4]⟩
abbrev S128x6 : Shape := ⟨2, ![128, 6]⟩
abbrev S128x16 : Shape := ⟨2, ![128, 16]⟩
abbrev S1024x16 : Shape := ⟨2, ![1024, 16]⟩
abbrev S128x1 : Shape := ⟨2, ![128, 1]⟩
abbrev S80x128 : Shape := ⟨2, ![80, 128]⟩
abbrev S32x4096 : Shape := ⟨2, ![32, 4096]⟩
abbrev S128x4096 : Shape := ⟨2, ![128, 4096]⟩
abbrev S1024x4096 : Shape := ⟨2, ![1024, 4096]⟩
abbrev S4096 : Shape := ⟨1, ![4096]⟩
abbrev S1x4096 : Shape := ⟨2, ![1, 4096]⟩
abbrev S1024 : Shape := ⟨1, ![1024]⟩
abbrev S1x128x4096 : Shape := ⟨3, ![1, 128, 4096]⟩
abbrev S1 : Shape := ⟨1, ![1]⟩
abbrev S1x1x1 : Shape := ⟨3, ![1, 1, 1]⟩
abbrev S256x4096 : Shape := ⟨2, ![256, 4096]⟩
abbrev S1x128x1 : Shape := ⟨3, ![1, 128, 1]⟩

abbrev nBuf : Space → Nat
  | .hbm => 15
  | .vmem => 16
  | .smem => 0
  | _ => 0

abbrev bufTy : (tb : Table) → Fin (tcTables nBuf tb) → BufTy
  | .hbm, ⟨0, _⟩ => ⟨S16384x32, .f32⟩
  | .hbm, ⟨1, _⟩ => ⟨S16384x1, .i1⟩
  | .hbm, ⟨2, _⟩ => ⟨S10x1x4, .f32⟩
  | .hbm, ⟨3, _⟩ => ⟨S10, .f32⟩
  | .hbm, ⟨4, _⟩ => ⟨S128x10, .f32⟩
  | .hbm, ⟨5, _⟩ => ⟨S256x80, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S10x4, .f32⟩
  | .hbm, ⟨10, _⟩ => ⟨S16384x128, .f32⟩
  | .hbm, ⟨11, _⟩ => ⟨S1024x1, .f32⟩
  | .hbm, ⟨12, _⟩ => ⟨S1x1, .f32⟩
  | .hbm, ⟨13, _⟩ => ⟨S1x1, .f32⟩
  | .hbm, ⟨14, _⟩ => ⟨S1x1, .f32⟩
  | .local _ .vmem, ⟨0, _⟩ => ⟨S4096x32, .f32⟩
  | .local _ .vmem, ⟨1, _⟩ => ⟨S4096x32, .f32⟩
  | .local _ .vmem, ⟨2, _⟩ => ⟨S10x4, .f32⟩
  | .local _ .vmem, ⟨3, _⟩ => ⟨S128x10, .f32⟩
  | .local _ .vmem, ⟨4, _⟩ => ⟨S256x80, .f32⟩
  | .local _ .vmem, ⟨5, _⟩ => ⟨S128x256, .f32⟩
  | .local _ .vmem, ⟨6, _⟩ => ⟨S4096x128, .f32⟩
  | .local _ .vmem, ⟨7, _⟩ => ⟨S4096x128, .f32⟩
  | .local _ .vmem, ⟨8, _⟩ => ⟨S1024x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S128x32, .f32⟩
  | .local _ .vmem, ⟨13, _⟩ => ⟨S1024x128, .f32⟩
  | .local _ .vmem, ⟨14, _⟩ => ⟨S1024x1, .f32⟩
  | .local _ .vmem, ⟨15, _⟩ => ⟨S256x128, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v102 : BitVec 1 := Scalar.cmpi .eq arg0 c3_i32
  let v103 : BitVec 32 := Scalar.extui v102
  let c0_i32_40 : BitVec 32 := 0#32
  let v104 : BitVec 1 := Scalar.cmpi .ne v103 c0_i32_40
  v104

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16384x32 : Shape := ⟨2, ![16384, 32]⟩
abbrev S16384x1 : Shape := ⟨2, ![16384, 1]⟩
abbrev S10x1x4 : Shape := ⟨3, ![10, 1, 4]⟩
abbrev S10 : Shape := ⟨1, ![10]⟩
abbrev S128x10 : Shape := ⟨2, ![128, 10]⟩
abbrev S256x80 : Shape := ⟨2, ![256, 80]⟩
abbrev S256 : Shape := ⟨1, ![256]⟩
abbrev S128x256 : Shape := ⟨2, ![128, 256]⟩
abbrev S128 : Shape := ⟨1, ![128]⟩
abbrev S16384x8x4 : Shape := ⟨3, ![16384, 8, 4]⟩
abbrev S10x4 : Shape := ⟨2, ![10, 4]⟩
abbrev S16384x8x10 : Shape := ⟨3, ![16384, 8, 10]⟩
abbrev S1x1x10 : Shape := ⟨3, ![1, 1, 10]⟩
abbrev S_ : Shape := ⟨0, ![]⟩
abbrev S131072x10 : Shape := ⟨2, ![131072, 10]⟩
abbrev S131072 : Shape := ⟨1, ![131072]⟩
abbrev S131072x1 : Shape := ⟨2, ![131072, 1]⟩
abbrev S10x128 : Shape := ⟨2, ![10, 128]⟩
abbrev S131072x128 : Shape := ⟨2, ![131072, 128]⟩
abbrev S1x128 : Shape := ⟨2, ![1, 128]⟩
abbrev S1 : Shape := ⟨1, ![1]⟩
abbrev S1x1 : Shape := ⟨2, ![1, 1]⟩
abbrev S16384x1x1 : Shape := ⟨3, ![16384, 1, 1]⟩
abbrev S16384x1x8x1 : Shape := ⟨4, ![16384, 1, 8, 1]⟩
abbrev S16384x8x1 : Shape := ⟨3, ![16384, 8, 1]⟩
abbrev S16384x10x8 : Shape := ⟨3, ![16384, 10, 8]⟩
abbrev S16384x80 : Shape := ⟨2, ![16384, 80]⟩
abbrev S80x256 : Shape := ⟨2, ![80, 256]⟩
abbrev S16384x256 : Shape := ⟨2, ![16384, 256]⟩
abbrev S1x256 : Shape := ⟨2, ![1, 256]⟩
abbrev S256x128 : Shape := ⟨2, ![256, 128]⟩
abbrev S16384x128 : Shape := ⟨2, ![16384, 128]⟩

abbrev nBuf : Space → Nat
  | .hbm => 128
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x1, .i1⟩
  | .hbm, ⟨2, _⟩ => ⟨S10x1x4, .f32⟩
  | .hbm, ⟨3, _⟩ => ⟨S10, .f32⟩
  | .hbm, ⟨4, _⟩ => ⟨S128x10, .f32⟩
  | .hbm, ⟨5, _⟩ => ⟨S256x80, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S16384x8x4, .f32⟩
  | .hbm, ⟨10, _⟩ => ⟨S10x4, .f32⟩
  | .hbm, ⟨11, _⟩ => ⟨S16384x8x10, .f32⟩
  | .hbm, ⟨12, _⟩ => ⟨S1x1x10, .f32⟩
  | .hbm, ⟨13, _⟩ => ⟨S16384x8x10, .f32⟩
  | .hbm, ⟨14, _⟩ => ⟨S16384x8x10, .f32⟩
  | .hbm, ⟨15, _⟩ => ⟨S_, .f32⟩
  | .hbm, ⟨16, _⟩ => ⟨S16384x8x10, .f32⟩
  | .hbm, ⟨17, _⟩ => ⟨S16384x8x10, .f32⟩
  | .hbm, ⟨18, _⟩ => ⟨S131072x10, .f32⟩
  | .hbm, ⟨19, _⟩ => ⟨S131072x10, .f32⟩
  | .hbm, ⟨20, _⟩ => ⟨S_, .f32⟩
  | .hbm, ⟨21, _⟩ => ⟨S131072, .f32⟩
  | .hbm, ⟨22, _⟩ => ⟨S131072x1, .f32⟩
  | .hbm, ⟨23, _⟩ => ⟨S_, .f32⟩
  | .hbm, ⟨24, _⟩ => ⟨S131072x10, .f32⟩
  | .hbm, ⟨25, _⟩ => ⟨S131072x10, .f32⟩
  | .hbm, ⟨26, _⟩ => ⟨S10x128, .f32⟩
  | .hbm, ⟨27, _⟩ => ⟨S131072x128, .f32⟩
  | .hbm, ⟨28, _⟩ => ⟨S131072x128, .f32⟩
  | .hbm, ⟨29, _⟩ => ⟨S131072x128, .f32⟩
  | .hbm, ⟨30, _⟩ => ⟨S128x10, .f32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S131072x128, .f32⟩
  | .hbm, ⟨35, _⟩ => ⟨S131072x128, .f32⟩
  | .hbm, ⟨36, _⟩ => ⟨S131072x128, .i32⟩
  | .hbm, ⟨37, _⟩ => ⟨S_, .f32⟩
  | .hbm, ⟨38, _⟩ => ⟨S_, .i32⟩
  | .hbm, ⟨39, _⟩ => ⟨S131072, .f32⟩
  | .hbm, ⟨40, _⟩ => ⟨S131072, .i32⟩
  | .hbm, ⟨41, _⟩ => ⟨S_, .i32⟩
  | .hbm, ⟨42, _⟩ => ⟨S131072, .i32⟩
  | .hbm, ⟨43, _⟩ => ⟨S131072, .i1⟩
  | .hbm, ⟨44, _⟩ => ⟨S_, .i32⟩
  | .hbm, ⟨45, _⟩ => ⟨S131072, .i32⟩
  | .hbm, ⟨46, _⟩ => ⟨S131072, .i32⟩
  | .hbm, ⟨47, _⟩ => ⟨S131072, .i32⟩
  | .hbm, ⟨48, _⟩ => ⟨S131072x1, .i32⟩
  | .hbm, ⟨49, _⟩ => ⟨S1, .i32⟩
  | .hbm, ⟨50, _⟩ => ⟨S_, .i32⟩
  | .hbm, ⟨51, _⟩ => ⟨S131072x1, .i32⟩
  | .hbm, ⟨52, _⟩ => ⟨S131072x1, .i1⟩
  | .hbm, ⟨53, _⟩ => ⟨S1x1, .i32⟩
  | .hbm, ⟨54, _⟩ => ⟨S131072x1, .i32⟩
  | .hbm, ⟨55, _⟩ => ⟨S131072x1, .i1⟩
  | .hbm, ⟨56, _⟩ => ⟨S131072x1, .i1⟩
  | .hbm, ⟨57, _⟩ => ⟨S_, .i1⟩
  | .hbm, ⟨58, _⟩ => ⟨S131072, .i1⟩
  | .hbm, ⟨59, _⟩ => ⟨S131072x10, .f32⟩
  | .hbm, ⟨60, _⟩ => ⟨S131072x10, .i1⟩
  | .hbm, ⟨61, _⟩ => ⟨S_, .f32⟩
  | .hbm, ⟨62, _⟩ => ⟨S131072x10, .f32⟩
  | .hbm, ⟨63, _⟩ => ⟨S131072x10, .f32⟩
  | .hbm, ⟨64, _⟩ => ⟨S16384x8x10, .f32⟩
  | .hbm, ⟨65, _⟩ => ⟨S16384x1x1, .i1⟩
  | .hbm, ⟨66, _⟩ => ⟨S16384x1x8x1, .i1⟩
  | .hbm, ⟨67, _⟩ => ⟨S16384x8x1, .i1⟩
  | .hbm, ⟨68, _⟩ => ⟨S16384x8x1, .i1⟩
  | .hbm, ⟨69, _⟩ => ⟨S16384x8x1, .f32⟩
  | .hbm, ⟨70, _⟩ => ⟨S16384x8x10, .f32⟩
  | .hbm, ⟨71, _⟩ => ⟨S16384x8x10, .f32⟩
  | .hbm, ⟨72, _⟩ => ⟨S16384x8x10, .f32⟩
  | .hbm, ⟨73, _⟩ => ⟨S16384x8x10, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S16384x8x10, .f32⟩
  | .hbm, ⟨86, _⟩ => ⟨S16384x8x10, .f32⟩
  | .hbm, ⟨87, _⟩ => ⟨S131072x1, .i32⟩
  | .hbm, ⟨88, _⟩ => ⟨S1x128, .i32⟩
  | .hbm, ⟨89, _⟩ => ⟨S131072x128, .i32⟩
  | .hbm, ⟨90, _⟩ => ⟨S131072x128, .i32⟩
  | .hbm, ⟨91, _⟩ => ⟨S131072x128, .i1⟩
  | .hbm, ⟨92, _⟩ => ⟨S131072x128, .f32⟩
  | .hbm, ⟨93, _⟩ => ⟨S131072, .f32⟩
  | .hbm, ⟨94, _⟩ => ⟨S131072x1, .f32⟩
  | .hbm, ⟨95, _⟩ => ⟨S131072x128, .f32⟩
  | .hbm, ⟨96, _⟩ => ⟨S131072x128, .f32⟩
  | .hbm, ⟨97, _⟩ => ⟨S_, .f32⟩
  | .hbm, ⟨98, _⟩ => ⟨S128, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S128, .f32⟩
  | .hbm, ⟨104, _⟩ => ⟨S128, .f32⟩
  | .hbm, ⟨105, _⟩ => ⟨S_, .f32⟩
  | .hbm, ⟨106, _⟩ => ⟨S128, .f32⟩
  | .hbm, ⟨107, _⟩ => ⟨S128, .f32⟩
  | .hbm, ⟨108, _⟩ => ⟨S128, .f32⟩
  | .hbm, ⟨109, _⟩ => ⟨S128, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S16384x10x8, .f32⟩
  | .hbm, ⟨115, _⟩ => ⟨S16384x80, .f32⟩
  | .hbm, ⟨116, _⟩ => ⟨S80x256, .f32⟩
  | .hbm, ⟨117, _⟩ => ⟨S16384x256, .f32⟩
  | .hbm, ⟨118, _⟩ => ⟨S1x256, .f32⟩
  | .hbm, ⟨119, _⟩ => ⟨S16384x256, .f32⟩
  | .hbm, ⟨120, _⟩ => ⟨S16384x256, .f32⟩
  | .hbm, ⟨121, _⟩ => ⟨S256x128, .f32⟩
  | .hbm, ⟨122, _⟩ => ⟨S16384x128, .f32⟩
  | .hbm, ⟨123, _⟩ => ⟨S1x128, .f32⟩
  | .hbm, ⟨124, _⟩ => ⟨S16384x128, .f32⟩
  | .hbm, ⟨125, _⟩ => ⟨S16384x128, .f32⟩
  | .hbm, ⟨126, _⟩ => ⟨S1x1, .f32⟩
  | .hbm, ⟨127, _⟩ => ⟨S1x1, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_cst : Ref sig .tc := ⟨.hbm, 37, rfl⟩
abbrev main_call0_c : Ref sig .tc := ⟨.hbm, 38, rfl⟩
abbrev main_call0_v1_0 : Ref sig .tc := ⟨.hbm, 39, rfl⟩
abbrev main_v23 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_3 : Ref sig .tc := ⟨.hbm, 74, rfl⟩
abbrev main_v35 : Ref sig .tc := ⟨.hbm, 75, rfl⟩
abbrev main_cst_4 : Ref sig .tc := ⟨.hbm, 76, rfl⟩
abbrev main_v36 : Ref sig .tc := ⟨.hbm, 77, rfl⟩
abbrev main_cst_5 : Ref sig .tc := ⟨.hbm, 78, rfl⟩
abbrev main_v37 : Ref sig .tc := ⟨.hbm, 79, rfl⟩
abbrev main_cst_6 : Ref sig .tc := ⟨.hbm, 80, rfl⟩
abbrev main_v38 : Ref sig .tc := ⟨.hbm, 81, rfl⟩
abbrev main_v39 : Ref sig .tc := ⟨.hbm, 82, rfl⟩
abbrev main_cst_7 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_cst_8 : Ref sig .tc := ⟨.hbm, 97, rfl⟩
abbrev main_v48 : Ref sig .tc := ⟨.hbm, 98, rfl⟩
abbrev main_cst_9 : Ref sig .tc := ⟨.hbm, 99, rfl⟩
abbrev main_v49 : Ref sig .tc := ⟨.hbm, 100, rfl⟩
abbrev main_cst_10 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_11 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_cst_12 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩

abbrev nD : Nat := 1
abbrev τ : Topo := Topo.v7x

variable {F : FTy → Type} [FloatOps F]
-- ==== Proof.RefOps.lean ====
/- The reference's host operations as lists, cut where a quantity of the mathematics is complete (the encoded
   vectors, the distances, the nearest codes, …) -/
module

public import proofs.«01_k».proof.Proof.Gen.ReferenceIdeal
public import Idealize.ShloMosaic.Lib.StableHlo.RunHlo
public import Idealize.ShloMosaic.Lib.StableHlo.RunRead

@[expose] public section

set_option maxRecDepth 16384

noncomputable section

namespace Cert.RefRun

open Cert.ReferenceIdeal Cert.ReferenceIdeal.Facts₀ Cert.ReferenceIdeal.Facts Idealize.ShloMosaic Idealize.ShloMosaic.StableHlo Idealize.SL.Sem

variable {F : FTy → Type} [FloatOps F]

/-- Operations 0–8: the encoded vectors. -/
def ops_a : List (HloOp τ sig (Elt F)) :=
  [StableHlo.reshape main_arg0 main_v0 (rfl : (.f32 : EltTy) = .f32) shapeCasts_S16384x32_S16384x8x4,
   StableHlo.reshape main_arg2 main_v1 (rfl : (.f32 : EltTy) = .f32) shapeCasts_S10x1x4_S10x4,
   StableHlo.binary main_v0 main_v1 main_v2 ((fun l r => Host.dotGeneral dot_S16384x8x4_S10x4_S16384x8x10_2_1_01_0_n_n none l r) : (⟨S16384x8x4, .f32⟩ : BufTy).Contents (Elt F) → (⟨S10x4, .f32⟩ : BufTy).Contents (Elt F) → (⟨S16384x8x10, .f32⟩ : BufTy).Contents (Elt F)),
   StableHlo.unary main_arg3 main_v3 (broadcastInDim S1x1x10 ![2] bcast_S10_S1x1x10_2 : (⟨S10, .f32⟩ : BufTy).Contents (Elt F) → (⟨S1x1x10, .f32⟩ : BufTy).Contents (Elt F)),
   StableHlo.unary main_v3 main_v4 (broadcastInDim S16384x8x10 ![0, 1, 2] bcast_S1x1x10_S16384x8x10_0_1_2 : (⟨S1x1x10, .f32⟩ : BufTy).Contents (Elt F) → (⟨S16384x8x10, .f32⟩ : BufTy).Contents (Elt F)),
   StableHlo.binary main_v2 main_v4 main_v5 (addf : (⟨S16384x8x10, .f32⟩ : BufTy).Contents (Elt F) → (⟨S16384x8x10, .f32⟩ : BufTy).Contents (Elt F) → (⟨S16384x8x10, .f32⟩ : BufTy).Contents (Elt F)),
   StableHlo.nullary main_cst (constant S_ .f32 0x00000000#32),
   StableHlo.unary main_cst main_v6 (broadcastInDim S16384x8x10 ![] bcast_S_S16384x8x10 : (⟨S_, .f32⟩ : BufTy).Contents (Elt F) → (⟨S16384x8x10, .f32⟩ : BufTy).Contents (Elt F)),
   StableHlo.binary main_v5 main_v6 main_v7 (maximumf : (⟨S16384x8x10, .f32⟩ : BufTy).Contents (Elt F) → (⟨S16384x8x10, .f32⟩ : BufTy).Contents (Elt F) → (⟨S16384x8x10, .f32⟩ : BufTy).Contents (Elt F))]

/-- The buffers that `ops_a` writes, in order. -/
def out_a : List (Ref sig .tc) := [main_v0, main_v1, main_v2, main_v3, main_v4, main_v5, main_cst, main_v6, main_v7]

theorem sub_a : (ops_a (F := F)).Forall fun op => op.bufs ⊆ tcRefs τ sig := by simp [ops_a]

theorem fresh_a : (ops_a (F := F)).Forall fun op => op.fresh = ∅ := forall_fresh_of_map rfl

theorem writes_a : (ops_a (F := F)).Forall fun op => op.writes ⊆ (out_a.map (Proc.devRef (τ := τ) .tc)).toFinset :=
  forall_writes_sub_of_map rfl

/-- Operations 9–26: the squared distances to the codes. -/
def ops_b : List (HloOp τ sig (Elt F)) :=
  [StableHlo.reshape main_v7 main_v8 (rfl : (.f32 : EltTy) = .f32) shapeCasts_S16384x8x10_S131072x10,
   StableHlo.binary main_v8 main_v8 main_v9 (mulf : (⟨S131072x10, .f32⟩ : BufTy).Contents (Elt F) → (⟨S131072x10, .f32⟩ : BufTy).Contents (Elt F) → (⟨S131072x10, .f32⟩ : BufTy).Contents (Elt F)),
   StableHlo.nullary main_cst_0 (constant S_ .f32 0x00000000#32),
   StableHlo.binary main_v9 main_cst_0 main_v10 ((fun x v => Host.reduceAdd x v reducesTo_S131072x10_S131072_d1 h_S_) : (⟨S131072x10, .f32⟩ : BufTy).Contents (Elt F) → (⟨S_, .f32⟩ : BufTy).Contents (Elt F) → (⟨S131072, .f32⟩ : BufTy).Contents (Elt F)),
   StableHlo.unary main_v10 main_v11 (broadcastInDim S131072x1 ![0] bcast_S131072_S131072x1_0 : (⟨S131072, .f32⟩ : BufTy).Contents (Elt F) → (⟨S131072x1, .f32⟩ : BufTy).Contents (Elt F)),
   StableHlo.nullary main_cst_1 (constant S_ .f32 0x40000000#32),
   StableHlo.unary main_cst_1 main_v12 (broadcastInDim S131072x10 ![] bcast_S_S131072x10 : (⟨S_, .f32⟩ : BufTy).Contents (Elt F) → (⟨S131072x10, .f32⟩ : BufTy).Contents (Elt F)),
   StableHlo.binary main_v12 main_v8 main_v13 (mulf : (⟨S131072x10, .f32⟩ : BufTy).Contents (Elt F) → (⟨S131072x10, .f32⟩ : BufTy).Contents (Elt F) → (⟨S131072x10, .f32⟩ : BufTy).Contents (Elt F)),
   StableHlo.unary main_arg4 main_v14 ((transpose S10x128 [1, 0] · transposes_S128x10_S10x128_1_0) : (⟨S128x10, .f32⟩ : BufTy).Contents (Elt F) → (⟨S10x128, .f32⟩ : BufTy).Contents (Elt F)),
   StableHlo.binary main_v13 main_v14 main_v15 ((fun l r => Host.dotGeneral dot_S131072x10_S10x128_S131072x128_1_0_0_1_n_n none l r) : (⟨S131072x10, .f32⟩ : BufTy).Contents (Elt F) → (⟨S10x128, .f32⟩ : BufTy).Contents (Elt F) → (⟨S131072x128, .f32⟩ : BufTy).Contents (Elt F)),
   StableHlo.unary main_v11 main_v16 (broadcastInDim S131072x128 ![0, 1] bcast_S131072x1_S131072x128_0_1 : (⟨S131072x1, .f32⟩ : BufTy).Contents (Elt F) → (⟨S131072x128, .f32⟩ : BufTy).Contents (Elt F)),
   StableHlo.binary main_v16 main_v15 main_v17 (subf : (⟨S131072x128, .f32⟩ : BufTy).Contents (Elt F) → (⟨S131072x128, .f32⟩ : BufTy).Contents (Elt F) → (⟨S131072x128, .f32⟩ : BufTy).Contents (Elt F)),
   StableHlo.binary main_arg4 main_arg4 main_v18 (mulf : (⟨S128x10, .f32⟩ : BufTy).Contents (Elt F) → (⟨S128x10, .f32⟩ : BufTy).Contents (Elt F) → (⟨S128x10, .f32⟩ : BufTy).Contents (Elt F)),
   StableHlo.nullary main_cst_2 (constant S_ .f32 0x00000000#32),
   StableHlo.binary main_v18 main_cst_2 main_v19 ((fun x v => Host.reduceAdd x v reducesTo_S128x10_S128_d1 h_S_) : (⟨S128x10, .f32⟩ : BufTy).Contents (Elt F) → (⟨S_, .f32⟩ : BufTy).Contents (Elt F) → (⟨S128, .f32⟩ : BufTy).Contents (Elt F)),
   StableHlo.unary main_v19 main_v20 (broadcastInDim S1x128 ![1] bcast_S128_S1x128_1 : (⟨S128, .f32⟩ : BufTy).Contents (Elt F) → (⟨S1x128, .f32⟩ : BufTy).Contents (Elt F)),
   StableHlo.unary main_v20 main_v21 (broadcastInDim S131072x128 ![0, 1] bcast_S1x128_S131072x128_0_1 : (⟨S1x128, .f32⟩ : BufTy).Contents (Elt F) → (⟨S131072x128, .f32⟩ : BufTy).Contents (Elt F)),
   StableHlo.binary main_v17 main_v21 main_v22 (addf : (⟨S131072x128, .f32⟩ : BufTy).Contents (Elt F) → (⟨S131072x128, .f32⟩ : BufTy).Contents (Elt F) → (⟨S131072x128, .f32⟩ : BufTy).Contents (Elt F))]

/-- The buffers that `ops_b` writes, in order. -/
def out_b : List (Ref sig .tc) := [main_v8, main_v9, main_cst_0, main_v10, main_v11, main_cst_1, main_v12, main_v13, main_v14, main_v15, main_v16, main_v17, main_v18, main_cst_2, main_v19, main_v20, main_v21, main_v22]

theorem sub_b : (ops_b (F := F)).Forall fun op => op.bufs ⊆ tcRefs τ sig := by simp [ops_b]

theorem fresh_b : (ops_b (F := F)).Forall fun op => op.fresh = ∅ := forall_fresh_of_map rfl

theorem writes_b : (ops_b (F := F)).Forall fun op => op.writes ⊆ (out_b.map (Proc.devRef (τ := τ) .tc)).toFinset :=
  forall_writes_sub_of_map rfl

/-- Operations 27–31: the nearest code of each vector. -/
def ops_c : List (HloOp τ sig (Elt F)) :=
  [StableHlo.TRef.nullary (.of main_call0_v0 : StableHlo.TRef sig ⟨S131072x128, .i32⟩) (iotaInDim S131072x128 32 1),
   StableHlo.TRef.nullary (.of main_call0_cst : StableHlo.TRef sig ⟨S_, .f32⟩) (constant S_ .f32 0x7F800000#32),
   StableHlo.TRef.nullary (.of main_call0_c : StableHlo.TRef sig ⟨S_, .i32⟩) (constantI S_ 32 0#32),
   StableHlo.TRef.quaternary (.of main_v22 : StableHlo.TRef sig ⟨S131072x128, .f32⟩) (.of main_call0_v0 : StableHlo.TRef sig ⟨S131072x128, .i32⟩) (.of main_call0_cst : StableHlo.TRef sig ⟨S_, .f32⟩) (.of main_call0_c : StableHlo.TRef sig ⟨S_, .i32⟩) (.of main_call0_v1_0 : StableHlo.TRef sig ⟨S131072, .f32⟩) (fun x y u v j => (Host.argReduce reducer_argmin_f32_i32 x y u v reducesTo_S131072x128_S131072_d1 h_S_ j).1),
   StableHlo.TRef.quaternary (.of main_v22 : StableHlo.TRef sig ⟨S131072x128, .f32⟩) (.of main_call0_v0 : StableHlo.TRef sig ⟨S131072x128, .i32⟩) (.of main_call0_cst : StableHlo.TRef sig ⟨S_, .f32⟩) (.of main_call0_c : StableHlo.TRef sig ⟨S_, .i32⟩) (.of main_v23 : StableHlo.TRef sig ⟨S131072, .i32⟩) (fun x y u v j => (Host.argReduce reducer_argmin_f32_i32 x y u v reducesTo_S131072x128_S131072_d1 h_S_ j).2)]

/-- The buffers that `ops_c` writes, in order. -/
def out_c : List (Ref sig .tc) := [main_call0_v0, main_call0_cst, main_call0_c, main_call0_v1_0, main_v23]

theorem sub_c : (ops_c (F := F)).Forall fun op => op.bufs ⊆ tcRefs τ sig := by simp [ops_c]

theorem fresh_c : (ops_c (F := F)).Forall fun op => op.fresh = ∅ := forall_fresh_of_map rfl

theorem writes_c : (ops_c (F := F)).Forall fun op => op.writes ⊆ (out_c.map (Proc.devRef (τ := τ) .tc)).toFinset :=
  forall_writes_sub_of_map rfl

/-- Operations 32–54: the nearest codes, gathered. -/
def ops_d : List (HloOp τ sig (Elt F)) :=
  [StableHlo.TRef.nullary (.of main_call1_c : StableHlo.TRef sig ⟨S_, .i32⟩) (constantI S_ 32 0#32),
   StableHlo.TRef.unary (.of main_call1_c : StableHlo.TRef sig ⟨S_, .i32⟩) (.of main_call1_v0 : StableHlo.TRef sig ⟨S131072, .i32⟩) (broadcastInDim S131072 ![] bcast_S_S131072),
   StableHlo.TRef.binary (.of main_v23 : StableHlo.TRef sig ⟨S131072, .i32⟩) (.of main_call1_v0 : StableHlo.TRef sig ⟨S131072, .i32⟩) (.of main_call1_v1 : StableHlo.TRef sig ⟨S131072, .i1⟩) (cmpi .slt),
   StableHlo.TRef.nullary (.of main_call1_c_0 : StableHlo.TRef sig ⟨S_, .i32⟩) (constantI S_ 32 128#32),
   StableHlo.TRef.unary (.of main_call1_c_0 : StableHlo.TRef sig ⟨S_, .i32⟩) (.of main_call1_v2 : StableHlo.TRef sig ⟨S131072, .i32⟩) (broadcastInDim S131072 ![] bcast_S_S131072),
   StableHlo.TRef.binary (.of main_v23 : StableHlo.TRef sig ⟨S131072, .i32⟩) (.of main_call1_v2 : StableHlo.TRef sig ⟨S131072, .i32⟩) (.of main_call1_v3 : StableHlo.TRef sig ⟨S131072, .i32⟩) addi,
   StableHlo.TRef.ternary (.of main_call1_v1 : StableHlo.TRef sig ⟨S131072, .i1⟩) (.of main_call1_v3 : StableHlo.TRef sig ⟨S131072, .i32⟩) (.of main_v23 : StableHlo.TRef sig ⟨S131072, .i32⟩) (.of main_call1_v4 : StableHlo.TRef sig ⟨S131072, .i32⟩) select,
   StableHlo.TRef.unary (.of main_call1_v4 : StableHlo.TRef sig ⟨S131072, .i32⟩) (.of main_call1_v5 : StableHlo.TRef sig ⟨S131072x1, .i32⟩) (broadcastInDim S131072x1 ![0] bcast_S131072_S131072x1_0),
   StableHlo.TRef.nullary (.of main_call1_c_1 : StableHlo.TRef sig ⟨S1, .i32⟩) (constantI S1 32 127#32),
   StableHlo.TRef.nullary (.of main_call1_c_2 : StableHlo.TRef sig ⟨S_, .i32⟩) (constantI S_ 32 0#32),
   StableHlo.TRef.unary (.of main_call1_c_2 : StableHlo.TRef sig ⟨S_, .i32⟩) (.of main_call1_v6 : StableHlo.TRef sig ⟨S131072x1, .i32⟩) (broadcastInDim S131072x1 ![] bcast_S_S131072x1),
   StableHlo.TRef.binary (.of main_call1_v5 : StableHlo.TRef sig ⟨S131072x1, .i32⟩) (.of main_call1_v6 : StableHlo.TRef sig ⟨S131072x1, .i32⟩) (.of main_call1_v7 : StableHlo.TRef sig ⟨S131072x1, .i1⟩) (cmpi .sge),
   StableHlo.TRef.unary (.of main_call1_c_1 : StableHlo.TRef sig ⟨S1, .i32⟩) (.of main_call1_v8 : StableHlo.TRef sig ⟨S1x1, .i32⟩) (broadcastInDim S1x1 ![1] bcast_S1_S1x1_1),
   StableHlo.TRef.unary (.of main_call1_v8 : StableHlo.TRef sig ⟨S1x1, .i32⟩) (.of main_call1_v9 : StableHlo.TRef sig ⟨S131072x1, .i32⟩) (broadcastInDim S131072x1 ![0, 1] bcast_S1x1_S131072x1_0_1),
   StableHlo.TRef.binary (.of main_call1_v5 : StableHlo.TRef sig ⟨S131072x1, .i32⟩) (.of main_call1_v9 : StableHlo.TRef sig ⟨S131072x1, .i32⟩) (.of main_call1_v10 : StableHlo.TRef sig ⟨S131072x1, .i1⟩) (cmpi .sle),
   StableHlo.TRef.binary (.of main_call1_v7 : StableHlo.TRef sig ⟨S131072x1, .i1⟩) (.of main_call1_v10 : StableHlo.TRef sig ⟨S131072x1, .i1⟩) (.of main_call1_v11 : StableHlo.TRef sig ⟨S131072x1, .i1⟩) andi,
   StableHlo.TRef.nullary (.of main_call1_c_3 : StableHlo.TRef sig ⟨S_, .i1⟩) (constantI S_ 1 1#1),
   StableHlo.TRef.binary (.of main_call1_v11 : StableHlo.TRef sig ⟨S131072x1, .i1⟩) (.of main_call1_c_3 : StableHlo.TRef sig ⟨S_, .i1⟩) (.of main_call1_v12 : StableHlo.TRef sig ⟨S131072, .i1⟩) (fun x v => Host.reduce IntOp.andi x v reducesTo_S131072x1_S131072_d1 h_S_),
   StableHlo.TRef.binary (.of main_arg4 : StableHlo.TRef sig ⟨S128x10, .f32⟩) (.of main_call1_v5 : StableHlo.TRef sig ⟨S131072x1, .i32⟩) (.of main_call1_v13 : StableHlo.TRef sig ⟨S131072x10, .f32⟩) (fun x i => Host.gather gather_S128x10_S131072x1_S131072x10_1_0_n_n_0_1_110 x i),
   StableHlo.TRef.unary (.of main_call1_v12 : StableHlo.TRef sig ⟨S131072, .i1⟩) (.of main_call1_v14 : StableHlo.TRef sig ⟨S131072x10, .i1⟩) (broadcastInDim S131072x10 ![0] bcast_S131072_S131072x10_0),
   StableHlo.TRef.nullary (.of main_call1_cst : StableHlo.TRef sig ⟨S_, .f32⟩) (constant S_ .f32 0x7FC00000#32),
   StableHlo.TRef.unary (.of main_call1_cst : StableHlo.TRef sig ⟨S_, .f32⟩) (.of main_call1_v15 : StableHlo.TRef sig ⟨S131072x10, .f32⟩) (broadcastInDim S131072x10 ![] bcast_S_S131072x10),
   StableHlo.TRef.ternary (.of main_call1_v14 : StableHlo.TRef sig ⟨S131072x10, .i1⟩) (.of main_call1_v13 : StableHlo.TRef sig ⟨S131072x10, .f32⟩) (.of main_call1_v15 : StableHlo.TRef sig ⟨S131072x10, .f32⟩) (.of main_v24 : StableHlo.TRef sig ⟨S131072x10, .f32⟩) select]

/-- The buffers that `ops_d` writes, in order. -/
def out_d : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v24]

theorem sub_d : (ops_d (F := F)).Forall fun op => op.bufs ⊆ tcRefs τ sig := by simp [ops_d]

theorem fresh_d : (ops_d (F := F)).Forall fun op => op.fresh = ∅ := forall_fresh_of_map rfl

theorem writes_d : (ops_d (F := F)).Forall fun op => op.writes ⊆ (out_d.map (Proc.devRef (τ := τ) .tc)).toFinset :=
  forall_writes_sub_of_map rfl

/-- Operations 55–60: their grouping by row, and the weight of each vector. -/
def ops_e : List (HloOp τ sig (Elt F)) :=
  [StableHlo.reshape main_v24 main_v25 (rfl : (.f32 : EltTy) = .f32) shapeCasts_S131072x10_S16384x8x10,
   StableHlo.unary main_arg1 main_v26 (broadcastInDim S16384x1x1 ![0, 2] bcast_S16384x1_S16384x1x1_0_2 : (⟨S16384x1, .i1⟩ : BufTy).Contents (Elt F) → (⟨S16384x1x1, .i1⟩ : BufTy).Contents (Elt F)),
   StableHlo.unary main_v26 main_v27 (broadcastInDim S16384x1x8x1 ![0, 1, 3] bcast_S16384x1x1_S16384x1x8x1_0_1_3 : (⟨S16384x1x1, .i1⟩ : BufTy).Contents (Elt F) → (⟨S16384x1x8x1, .i1⟩ : BufTy).Contents (Elt F)),
   StableHlo.reshape main_v27 main_v28 (rfl : (.i1 : EltTy) = .i1) shapeCasts_S16384x1x8x1_S16384x8x1,
   StableHlo.unary main_v28 main_v29 (noti : (⟨S16384x8x1, .i1⟩ : BufTy).Contents (Elt F) → (⟨S16384x8x1, .i1⟩ : BufTy).Contents (Elt F)),
   StableHlo.unary main_v29 main_v30 (uitofp .f32 : (⟨S16384x8x1, .i1⟩ : BufTy).Contents (Elt F) → (⟨S16384x8x1, .f32⟩ : BufTy).Contents (Elt F))]

/-- The buffers that `ops_e` writes, in order. -/
def out_e : List (Ref sig .tc) := [main_v25, main_v26, main_v27, main_v28, main_v29, main_v30]

theorem sub_e : (ops_e (F := F)).Forall fun op => op.bufs ⊆ tcRefs τ sig := by simp [ops_e]

theorem fresh_e : (ops_e (F := F)).Forall fun op => op.fresh = ∅ := forall_fresh_of_map rfl

theorem writes_e : (ops_e (F := F)).Forall fun op => op.writes ⊆ (out_e.map (Proc.devRef (τ := τ) .tc)).toFinset :=
  forall_writes_sub_of_map rfl

/-- Operations 61–75: the commitment loss. -/
def ops_f : List (HloOp τ sig (Elt F)) :=
  [StableHlo.binary main_v25 main_v7 main_v31 (subf : (⟨S16384x8x10, .f32⟩ : BufTy).Contents (Elt F) → (⟨S16384x8x10, .f32⟩ : BufTy).Contents (Elt F) → (⟨S16384x8x10, .f32⟩ : BufTy).Contents (Elt F)),
   StableHlo.binary main_v31 main_v31 main_v32 (mulf : (⟨S16384x8x10, .f32⟩ : BufTy).Contents (Elt F) → (⟨S16384x8x10, .f32⟩ : BufTy).Contents (Elt F) → (⟨S16384x8x10, .f32⟩ : BufTy).Contents (Elt F)),
   StableHlo.unary main_v30 main_v33 (broadcastInDim S16384x8x10 ![0, 1, 2] bcast_S16384x8x1_S16384x8x10_0_1_2 : (⟨S16384x8x1, .f32⟩ : BufTy).Contents (Elt F) → (⟨S16384x8x10, .f32⟩ : BufTy).Contents (Elt F)),
   StableHlo.binary main_v32 main_v33 main_v34 (mulf : (⟨S16384x8x10, .f32⟩ : BufTy).Contents (Elt F) → (⟨S16384x8x10, .f32⟩ : BufTy).Contents (Elt F) → (⟨S16384x8x10, .f32⟩ : BufTy).Contents (Elt F)),
   StableHlo.nullary main_cst_3 (constant S_ .f32 0x00000000#32),
   StableHlo.binary main_v34 main_cst_3 main_v35 ((fun x v => Host.reduceAdd x v reducesTo_S16384x8x10_S_d0_1_2 h_S_) : (⟨S16384x8x10, .f32⟩ : BufTy).Contents (Elt F) → (⟨S_, .f32⟩ : BufTy).Contents (Elt F) → (⟨S_, .f32⟩ : BufTy).Contents (Elt F)),
   StableHlo.nullary main_cst_4 (constant S_ .f32 0x00000000#32),
   StableHlo.binary main_v30 main_cst_4 main_v36 ((fun x v => Host.reduceAdd x v reducesTo_S16384x8x1_S_d0_1_2 h_S_) : (⟨S16384x8x1, .f32⟩ : BufTy).Contents (Elt F) → (⟨S_, .f32⟩ : BufTy).Contents (Elt F) → (⟨S_, .f32⟩ : BufTy).Contents (Elt F)),
   StableHlo.nullary main_cst_5 (constant S_ .f32 0x41200000#32),
   StableHlo.binary main_v36 main_cst_5 main_v37 (mulf : (⟨S_, .f32⟩ : BufTy).Contents (Elt F) → (⟨S_, .f32⟩ : BufTy).Contents (Elt F) → (⟨S_, .f32⟩ : BufTy).Contents (Elt F)),
   StableHlo.nullary main_cst_6 (constant S_ .f32 0x3089705F#32),
   StableHlo.binary main_v37 main_cst_6 main_v38 (addf : (⟨S_, .f32⟩ : BufTy).Contents (Elt F) → (⟨S_, .f32⟩ : BufTy).Contents (Elt F) → (⟨S_, .f32⟩ : BufTy).Contents (Elt F)),
   StableHlo.binary main_v35 main_v38 main_v39 (Host.divf : (⟨S_, .f32⟩ : BufTy).Contents (Elt F) → (⟨S_, .f32⟩ : BufTy).Contents (Elt F) → (⟨S_, .f32⟩ : BufTy).Contents (Elt F)),
   StableHlo.nullary main_cst_7 (constant S_ .f32 0x3E800000#32),
   StableHlo.binary main_cst_7 main_v39 main_v40 (mulf : (⟨S_, .f32⟩ : BufTy).Contents (Elt F) → (⟨S_, .f32⟩ : BufTy).Contents (Elt F) → (⟨S_, .f32⟩ : BufTy).Contents (Elt F))]

/-- The buffers that `ops_f` writes, in order. -/
def out_f : List (Ref sig .tc) := [main_v31, main_v32, main_v33, main_v34, main_cst_3, main_v35, main_cst_4, main_v36, main_cst_5, main_v37, main_cst_6, main_v38, main_v39, main_cst_7, main_v40]

theorem sub_f : (ops_f (F := F)).Forall fun op => op.bufs ⊆ tcRefs τ sig := by simp [ops_f]

theorem fresh_f : (ops_f (F := F)).Forall fun op => op.fresh = ∅ := forall_fresh_of_map rfl

theorem writes_f : (ops_f (F := F)).Forall fun op => op.writes ⊆ (out_f.map (Proc.devRef (τ := τ) .tc)).toFinset :=
  forall_writes_sub_of_map rfl

/-- Operations 76–77: the straight-through vectors. -/
def ops_g : List (HloOp τ sig (Elt F)) :=
  [StableHlo.binary main_v25 main_v7 main_v41 (subf : (⟨S16384x8x10, .f32⟩ : BufTy).Contents (Elt F) → (⟨S16384x8x10, .f32⟩ : BufTy).Contents (Elt F) → (⟨S16384x8x10, .f32⟩ : BufTy).Contents (Elt F)),
   StableHlo.binary main_v7 main_v41 main_v42 (addf : (⟨S16384x8x10, .f32⟩ : BufTy).Contents (Elt F) → (⟨S16384x8x10, .f32⟩ : BufTy).Contents (Elt F) → (⟨S16384x8x10, .f32⟩ : BufTy).Contents (Elt F))]

/-- The buffers that `ops_g` writes, in order. -/
def out_g : List (Ref sig .tc) := [main_v41, main_v42]

theorem sub_g : (ops_g (F := F)).Forall fun op => op.bufs ⊆ tcRefs τ sig := by simp [ops_g]

theorem fresh_g : (ops_g (F := F)).Forall fun op => op.fresh = ∅ := forall_fresh_of_map rfl

theorem writes_g : (ops_g (F := F)).Forall fun op => op.writes ⊆ (out_g.map (Proc.devRef (τ := τ) .tc)).toFinset :=
  forall_writes_sub_of_map rfl

/-- Operations 78–83: the one-hot rows. -/
def ops_h : List (HloOp τ sig (Elt F)) :=
  [StableHlo.TRef.unary (.of main_v23 : StableHlo.TRef sig ⟨S131072, .i32⟩) (.of main_call2_v0 : StableHlo.TRef sig ⟨S131072x1, .i32⟩) (broadcastInDim S131072x1 ![0] bcast_S131072_S131072x1_0),
   StableHlo.TRef.nullary (.of main_call2_v1 : StableHlo.TRef sig ⟨S1x128, .i32⟩) (iotaInDim S1x128 32 1),
   StableHlo.TRef.unary (.of main_call2_v0 : StableHlo.TRef sig ⟨S131072x1, .i32⟩) (.of main_call2_v2 : StableHlo.TRef sig ⟨S131072x128, .i32⟩) (broadcastInDim S131072x128 ![0, 1] bcast_S131072x1_S131072x128_0_1),
   StableHlo.TRef.unary (.of main_call2_v1 : StableHlo.TRef sig ⟨S1x128, .i32⟩) (.of main_call2_v3 : StableHlo.TRef sig ⟨S131072x128, .i32⟩) (broadcastInDim S131072x128 ![0, 1] bcast_S1x128_S131072x128_0_1),
   StableHlo.TRef.binary (.of main_call2_v2 : StableHlo.TRef sig ⟨S131072x128, .i32⟩) (.of main_call2_v3 : StableHlo.TRef sig ⟨S131072x128, .i32⟩) (.of main_call2_v4 : StableHlo.TRef sig ⟨S131072x128, .i1⟩) (cmpi .eq),
   StableHlo.TRef.unary (.of main_call2_v4 : StableHlo.TRef sig ⟨S131072x128, .i1⟩) (.of main_v43 : StableHlo.TRef sig ⟨S131072x128, .f32⟩) (uitofp .f32)]

/-- The buffers that `ops_h` writes, in order. -/
def out_h : List (Ref sig .tc) := [main_call2_v0, main_call2_v1, main_call2_v2, main_call2_v3, main_call2_v4, main_v43]

theorem sub_h : (ops_h (F := F)).Forall fun op => op.bufs ⊆ tcRefs τ sig := by simp [ops_h]

theorem fresh_h : (ops_h (F := F)).Forall fun op => op.fresh = ∅ := forall_fresh_of_map rfl

theorem writes_h : (ops_h (F := F)).Forall fun op => op.writes ⊆ (out_h.map (Proc.devRef (τ := τ) .tc)).toFinset :=
  forall_writes_sub_of_map rfl

/-- Operations 84–89: the weighted counts of the codes. -/
def ops_i : List (HloOp τ sig (Elt F)) :=
  [StableHlo.reshape main_v30 main_v44 (rfl : (.f32 : EltTy) = .f32) shapeCasts_S16384x8x1_S131072,
   StableHlo.unary main_v44 main_v45 (broadcastInDim S131072x1 ![0] bcast_S131072_S131072x1_0 : (⟨S131072, .f32⟩ : BufTy).Contents (Elt F) → (⟨S131072x1, .f32⟩ : BufTy).Contents (Elt F)),
   StableHlo.unary main_v45 main_v46 (broadcastInDim S131072x128 ![0, 1] bcast_S131072x1_S131072x128_0_1 : (⟨S131072x1, .f32⟩ : BufTy).Contents (Elt F) → (⟨S131072x128, .f32⟩ : BufTy).Contents (Elt F)),
   StableHlo.binary main_v43 main_v46 main_v47 (mulf : (⟨S131072x128, .f32⟩ : BufTy).Contents (Elt F) → (⟨S131072x128, .f32⟩ : BufTy).Contents (Elt F) → (⟨S131072x128, .f32⟩ : BufTy).Contents (Elt F)),
   StableHlo.nullary main_cst_8 (constant S_ .f32 0x00000000#32),
   StableHlo.binary main_v47 main_cst_8 main_v48 ((fun x v => Host.reduceAdd x v reducesTo_S131072x128_S128_d0 h_S_) : (⟨S131072x128, .f32⟩ : BufTy).Contents (Elt F) → (⟨S_, .f32⟩ : BufTy).Contents (Elt F) → (⟨S128, .f32⟩ : BufTy).Contents (Elt F))]

/-- The buffers that `ops_i` writes, in order. -/
def out_i : List (Ref sig .tc) := [main_v44, main_v45, main_v46, main_v47, main_cst_8, main_v48]

theorem sub_i : (ops_i (F := F)).Forall fun op => op.bufs ⊆ tcRefs τ sig := by simp [ops_i]

theorem fresh_i : (ops_i (F := F)).Forall fun op => op.fresh = ∅ := forall_fresh_of_map rfl

theorem writes_i : (ops_i (F := F)).Forall fun op => op.writes ⊆ (out_i.map (Proc.devRef (τ := τ) .tc)).toFinset :=
  forall_writes_sub_of_map rfl

/-- Operations 90–104: the perplexity. -/
def ops_j : List (HloOp τ sig (Elt F)) :=
  [StableHlo.nullary main_cst_9 (constant S_ .f32 0x00000000#32),
   StableHlo.binary main_v44 main_cst_9 main_v49 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
   StableHlo.nullary main_cst_10 (constant S_ .f32 0x3089705F#32),
   StableHlo.binary main_v49 main_cst_10 main_v50 (addf : (⟨S_, .f32⟩ : BufTy).Contents (Elt F) → (⟨S_, .f32⟩ : BufTy).Contents (Elt F) → (⟨S_, .f32⟩ : BufTy).Contents (Elt F)),
   StableHlo.unary main_v50 main_v51 (broadcastInDim S128 ![] bcast_S_S128 : (⟨S_, .f32⟩ : BufTy).Contents (Elt F) → (⟨S128, .f32⟩ : BufTy).Contents (Elt F)),
   StableHlo.binary main_v48 main_v51 main_v52 (Host.divf : (⟨S128, .f32⟩ : BufTy).Contents (Elt F) → (⟨S128, .f32⟩ : BufTy).Contents (Elt F) → (⟨S128, .f32⟩ : BufTy).Contents (Elt F)),
   StableHlo.nullary main_cst_11 (constant S_ .f32 0x2EDBE6FF#32),
   StableHlo.unary main_cst_11 main_v53 (broadcastInDim S128 ![] bcast_S_S128 : (⟨S_, .f32⟩ : BufTy).Contents (Elt F) → (⟨S128, .f32⟩ : BufTy).Contents (Elt F)),
   StableHlo.binary main_v52 main_v53 main_v54 (addf : (⟨S128, .f32⟩ : BufTy).Contents (Elt F) → (⟨S128, .f32⟩ : BufTy).Contents (Elt F) → (⟨S128, .f32⟩ : BufTy).Contents (Elt F)),
   StableHlo.unary main_v54 main_v55 (Host.log : (⟨S128, .f32⟩ : BufTy).Contents (Elt F) → (⟨S128, .f32⟩ : BufTy).Contents (Elt F)),
   StableHlo.binary main_v52 main_v55 main_v56 (mulf : (⟨S128, .f32⟩ : BufTy).Contents (Elt F) → (⟨S128, .f32⟩ : BufTy).Contents (Elt F) → (⟨S128, .f32⟩ : BufTy).Contents (Elt F)),
   StableHlo.nullary main_cst_12 (constant S_ .f32 0x00000000#32),
   StableHlo.binary main_v56 main_cst_12 main_v57 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
   StableHlo.unary main_v57 main_v58 (Host.negf : (⟨S_, .f32⟩ : BufTy).Contents (Elt F) → (⟨S_, .f32⟩ : BufTy).Contents (Elt F)),
   StableHlo.unary main_v58 main_v59 (Host.exp : (⟨S_, .f32⟩ : BufTy).Contents (Elt F) → (⟨S_, .f32⟩ : BufTy).Contents (Elt F))]

/-- The buffers that `ops_j` writes, in order. -/
def out_j : List (Ref sig .tc) := [main_cst_9, main_v49, main_cst_10, main_v50, main_v51, main_v52, main_cst_11, main_v53, main_v54, main_v55, main_v56, main_cst_12, main_v57, main_v58, main_v59]

theorem sub_j : (ops_j (F := F)).Forall fun op => op.bufs ⊆ tcRefs τ sig := by simp [ops_j]

theorem fresh_j : (ops_j (F := F)).Forall fun op => op.fresh = ∅ := forall_fresh_of_map rfl

theorem writes_j : (ops_j (F := F)).Forall fun op => op.writes ⊆ (out_j.map (Proc.devRef (τ := τ) .tc)).toFinset :=
  forall_writes_sub_of_map rfl

/-- Operations 105–108: the first dense layer. -/
def ops_k : List (HloOp τ sig (Elt F)) :=
  [StableHlo.unary main_v42 main_v60 ((transpose S16384x10x8 [0, 2, 1] · transposes_S16384x8x10_S16384x10x8_0_2_1) : (⟨S16384x8x10, .f32⟩ : BufTy).Contents (Elt F) → (⟨S16384x10x8, .f32⟩ : BufTy).Contents (Elt F)),
   StableHlo.reshape main_v60 main_v61 (rfl : (.f32 : EltTy) = .f32) shapeCasts_S16384x10x8_S16384x80,
   StableHlo.unary main_arg5 main_v62 ((transpose S80x256 [1, 0] · transposes_S256x80_S80x256_1_0) : (⟨S256x80, .f32⟩ : BufTy).Contents (Elt F) → (⟨S80x256, .f32⟩ : BufTy).Contents (Elt F)),
   StableHlo.binary main_v61 main_v62 main_v63 ((fun l r => Host.dotGeneral dot_S16384x80_S80x256_S16384x256_1_0_0_1_n_n none l r) : (⟨S16384x80, .f32⟩ : BufTy).Contents (Elt F) → (⟨S80x256, .f32⟩ : BufTy).Contents (Elt F) → (⟨S16384x256, .f32⟩ : BufTy).Contents (Elt F))]

/-- The buffers that `ops_k` writes, in order. -/
def out_k : List (Ref sig .tc) := [main_v60, main_v61, main_v62, main_v63]

theorem sub_k : (ops_k (F := F)).Forall fun op => op.bufs ⊆ tcRefs τ sig := by simp [ops_k]

theorem fresh_k : (ops_k (F := F)).Forall fun op => op.fresh = ∅ := forall_fresh_of_map rfl

theorem writes_k : (ops_k (F := F)).Forall fun op => op.writes ⊆ (out_k.map (Proc.devRef (τ := τ) .tc)).toFinset :=
  forall_writes_sub_of_map rfl

/-- Operations 109–116: the second dense layer. -/
def ops_l : List (HloOp τ sig (Elt F)) :=
  [StableHlo.unary main_arg6 main_v64 (broadcastInDim S1x256 ![1] bcast_S256_S1x256_1 : (⟨S256, .f32⟩ : BufTy).Contents (Elt F) → (⟨S1x256, .f32⟩ : BufTy).Contents (Elt F)),
   StableHlo.unary main_v64 main_v65 (broadcastInDim S16384x256 ![0, 1] bcast_S1x256_S16384x256_0_1 : (⟨S1x256, .f32⟩ : BufTy).Contents (Elt F) → (⟨S16384x256, .f32⟩ : BufTy).Contents (Elt F)),
   StableHlo.binary main_v63 main_v65 main_v66 (addf : (⟨S16384x256, .f32⟩ : BufTy).Contents (Elt F) → (⟨S16384x256, .f32⟩ : BufTy).Contents (Elt F) → (⟨S16384x256, .f32⟩ : BufTy).Contents (Elt F)),
   StableHlo.unary main_arg7 main_v67 ((transpose S256x128 [1, 0] · transposes_S128x256_S256x128_1_0) : (⟨S128x256, .f32⟩ : BufTy).Contents (Elt F) → (⟨S256x128, .f32⟩ : BufTy).Contents (Elt F)),
   StableHlo.binary main_v66 main_v67 main_v68 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
   StableHlo.unary main_arg8 main_v69 (broadcastInDim S1x128 ![1] bcast_S128_S1x128_1 : (⟨S128, .f32⟩ : BufTy).Contents (Elt F) → (⟨S1x128, .f32⟩ : BufTy).Contents (Elt F)),
   StableHlo.unary main_v69 main_v70 (broadcastInDim S16384x128 ![0, 1] bcast_S1x128_S16384x128_0_1 : (⟨S1x128, .f32⟩ : BufTy).Contents (Elt F) → (⟨S16384x128, .f32⟩ : BufTy).Contents (Elt F)),
   StableHlo.binary main_v68 main_v70 main_v71 (addf : (⟨S16384x128, .f32⟩ : BufTy).Contents (Elt F) → (⟨S16384x128, .f32⟩ : BufTy).Contents (Elt F) → (⟨S16384x128, .f32⟩ : BufTy).Contents (Elt F))]

/-- The buffers that `ops_l` writes, in order. -/
def out_l : List (Ref sig .tc) := [main_v64, main_v65, main_v66, main_v67, main_v68, main_v69, main_v70, main_v71]

theorem sub_l : (ops_l (F := F)).Forall fun op => op.bufs ⊆ tcRefs τ sig := by simp [ops_l]

theorem fresh_l : (ops_l (F := F)).Forall fun op => op.fresh = ∅ := forall_fresh_of_map rfl

theorem writes_l : (ops_l (F := F)).Forall fun op => op.writes ⊆ (out_l.map (Proc.devRef (τ := τ) .tc)).toFinset :=
  forall_writes_sub_of_map rfl

/-- Operations 117–118: the two scalars as arrays of one entry. -/
def ops_m : List (HloOp τ sig (Elt F)) :=
  [StableHlo.reshape main_v40 main_v72 (rfl : (.f32 : EltTy) = .f32) shapeCasts_S_S1x1,
   StableHlo.reshape main_v59 main_v73 (rfl : (.f32 : EltTy) = .f32) shapeCasts_S_S1x1]

/-- The buffers that `ops_m` writes, in order. -/
def out_m : List (Ref sig .tc) := [main_v72, main_v73]

theorem sub_m : (ops_m (F := F)).Forall fun op => op.bufs ⊆ tcRefs τ sig := by simp [ops_m]

theorem fresh_m : (ops_m (F := F)).Forall fun op => op.fresh = ∅ := forall_fresh_of_map rfl

theorem writes_m : (ops_m (F := F)).Forall fun op => op.writes ⊆ (out_m.map (Proc.devRef (τ := τ) .tc)).toFinset :=
  forall_writes_sub_of_map rfl

/-- All operations of the reference, in order. -/
def ops : List (HloOp τ sig (Elt F)) :=
  ops_a ++ (ops_b ++ (ops_c ++ (ops_d ++ (ops_e ++ (ops_f ++ (ops_g ++ (ops_h ++ (ops_i ++ (ops_j ++ (ops_k ++ (ops_l ++ (ops_m))))))))))))

end Cert.RefRun

end
-- ==== Proof.RefRun.lean ====
/- The reference's run: the printed program is the line of operations listed in RefOps, and each buffer ends as that line leaves it. -/
module

public import proofs.«01_k».proof.Proof.RefOps

@[expose] public section

set_option maxRecDepth 16384

noncomputable section

namespace Cert.RefRun

open Cert.ReferenceIdeal Cert.ReferenceIdeal.Facts₀ Cert.ReferenceIdeal.Facts Idealize.ShloMosaic Idealize.ShloMosaic.StableHlo Idealize.SL.Sem

variable {F : FTy → Type} [FloatOps F]

set_option maxHeartbeats 2000000 in
/-- The printed program is the line of these operations. -/
theorem main_ops (d : Dev nD) : IsSeq (main (F := F) d) ops := by
  rfl

theorem sub : (ops (F := F)).Forall fun op => op.bufs ⊆ tcRefs τ sig := by
  simp only [ops, List.forall_append]
  exact ⟨sub_a, sub_b, sub_c, sub_d, sub_e, sub_f, sub_g, sub_h, sub_i, sub_j, sub_k, sub_l, sub_m⟩

theorem fresh : (ops (F := F)).Forall fun op => op.fresh = ∅ := by
  simp only [ops, List.forall_append]
  exact ⟨fresh_a, fresh_b, fresh_c, fresh_d, fresh_e, fresh_f, fresh_g, fresh_h, fresh_i, fresh_j, fresh_k, fresh_l, fresh_m⟩

/-- The reference runs, and each buffer ends as the operations leave it. -/
theorem run (m : (ℓ : Loc nD τ sig) → Buf (Elt F) ℓ) (ρ : Dev nD → PrngReg) :
    θ_run (defs (F := F)) (onTc (τ := τ) main) ⟨m, fun _ => 0, ρ⟩ fun r =>
      ∀ (d : Dev nD) (b : Ref sig .tc), r.2.mem ((d.tc : Thread nD τ).loc b) = after ops (launchContents m d) (Proc.devRef .tc b) :=
  run_hlo _ _ main_ops (by decide) (by decide) sub (List.forall_iff_forall_mem.mp fresh) m ρ

/-- Every buffer that the line writes. -/
def outs : List (Ref sig .tc) := out_a ++ (out_b ++ (out_c ++ (out_d ++ (out_e ++ (out_f ++ (out_g ++ (out_h ++ (out_i ++ (out_j ++ (out_k ++ (out_l ++ (out_m))))))))))))

/-- A buffer that the line never writes keeps its contents. -/
theorem kept {r : Ref sig .tc} (V : Valuation τ sig (Elt F)) (hr : r ∉ outs) : after ops V (Proc.devRef .tc r) = V (Proc.devRef .tc r) :=
  after_of_writes_sub ops V (forall_writes_sub_of_map (W := outs) rfl) hr

end Cert.RefRun

end
-- ==== Proof.Consts.lean ====
module
public import Idealize.ShloMosaic.Lib.Claim
public import Idealize.ShloMosaic.Lib.Pointwise
public import Idealize.ShloMosaic.PureOps.Ideal.Laws

/-! The literals of the two programs as extended reals. -/

@[expose] public section
noncomputable section
namespace Cert.Consts
open Idealize.ShloMosaic

/-- The pattern of two. -/
theorem two : Ideal.ofBits .f32 0x40000000#32 = ((2 : ℝ) : EReal) := by
  simp [Ideal.ofBits, Ideal.ieee, -EReal.coe_mul]; norm_num

/-- The pattern of minus two. -/
theorem neg_two : Ideal.ofBits .f32 0xC0000000#32 = ((-2 : ℝ) : EReal) := by
  simp [Ideal.ofBits, Ideal.ieee, -EReal.coe_mul]; norm_num

/-- The pattern of minus one half. -/
theorem neg_half : Ideal.ofBits .f32 0xBF000000#32 = ((-(1 / 2) : ℝ) : EReal) := by
  simp [Ideal.ofBits, Ideal.ieee, -EReal.coe_mul]; norm_num

/-- The pattern of the number of tokens. -/
theorem tokens : Ideal.ofBits .f32 0x48000000#32 = ((131072 : ℝ) : EReal) := by
  simp [Ideal.ofBits, Ideal.ieee, -EReal.coe_mul]; norm_num

/-- The pattern of infinity. -/
theorem inf : Ideal.ofBits .f32 0x7F800000#32 = ⊤ := by
  simp [Ideal.ofBits, Ideal.ieee]

end Cert.Consts
end
-- ==== Proof.Spec.lean ====
module
public import Idealize.ShloMosaic.Lib.Claim
public import Idealize.ShloMosaic.Lib.Pointwise
public import proofs.«01_k».proof.Proof.Consts

/-! The encoder of one window row, as functions of the row `p` of 32 samples (eight time steps of four), the filters `w`
and the codes `cb`. -/

@[expose] public section
noncomputable section
namespace Cert.Spec
open Idealize.ShloMosaic

/-- Minus two, as the programs write it. -/
abbrev M2 : EReal := Ideal.ofBits .f32 0xC0000000#32

/-- Minus one half, as the programs write it. -/
abbrev MH : EReal := Ideal.ofBits .f32 0xBF000000#32

/-- Column `4 t + w` of the input. -/
abbrev lane (t : Fin 8) (w : Fin 4) : Fin 32 := ⟨4 * t.val + w.val, by omega⟩

open Classical in
/-- The indicator of the entries that equal the least one. -/
def hot (f : Fin 128 → EReal) (k : Fin 128) : EReal := if f k = Finset.univ.fold min ⊤ f then 1 else 0

/-- The convolution's output at time step `t` and channel `c`. -/
def z (w : Fin 10 → Fin 4 → EReal) (p : Fin 32 → EReal) (t : Fin 8) (c : Fin 10) : EReal :=
  max (∑ j : Fin 4, w c j * p (lane t j)) 0

/-- The distance to code `k` less the square of the vector itself. -/
def s (w : Fin 10 → Fin 4 → EReal) (cb : Fin 128 → Fin 10 → EReal) (p : Fin 32 → EReal) (t : Fin 8) (k : Fin 128) : EReal :=
  ∑ d : Fin 10, (cb k d * M2) * z w p t d + ∑ d : Fin 10, cb k d * cb k d

/-- The nearest code's indicator. -/
def oh (w : Fin 10 → Fin 4 → EReal) (cb : Fin 128 → Fin 10 → EReal) (p : Fin 32 → EReal) (t : Fin 8) (k : Fin 128) : EReal :=
  hot (fun k' => s w cb p t k') k

/-- The nearest code less the vector. -/
def dl (w : Fin 10 → Fin 4 → EReal) (cb : Fin 128 → Fin 10 → EReal) (p : Fin 32 → EReal) (t : Fin 8) (c : Fin 10) : EReal :=
  MH * (∑ k : Fin 128, (cb k c * M2) * oh w cb p t k) - z w p t c

/-- The two dense layers over the straight-through vectors, output `o`. -/
def out (w : Fin 10 → Fin 4 → EReal) (cb : Fin 128 → Fin 10 → EReal) (fc : Fin 256 → Fin 80 → EReal) (mu : Fin 128 → Fin 256 → EReal)
    (p : Fin 32 → EReal) (o : Fin 128) : EReal :=
  ∑ e : Fin 256, (∑ t : Fin 8, ∑ c : Fin 10, fc e ⟨8 * c.val + t.val, by omega⟩ * (z w p t c + dl w cb p t c)) * mu o e

/-- The square error of one row. -/
def err (w : Fin 10 → Fin 4 → EReal) (cb : Fin 128 → Fin 10 → EReal) (p : Fin 32 → EReal) : EReal :=
  ∑ t : Fin 8, ∑ c : Fin 10, dl w cb p t c * dl w cb p t c

end Cert.Spec
end
-- ==== Proof.Near.lean ====
module

public import proofs.«01_k».proof.Proof.Spec
public import proofs.«01_k».proof.Proof.Consts

@[expose] public section

/-! # The nearest code over real entries: the two ways of finding it agree -/

noncomputable section

namespace Cert.Near

open Idealize.ShloMosaic Cert.Spec

/-- A sum of reals is the real sum. -/
theorem coe_sum {ι : Type} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- The larger of a real and zero. -/
theorem coe_max (x : ℝ) : max (x : EReal) 0 = ((max x 0 : ℝ) : EReal) :=
  (EReal.coe_strictMono.monotone.map_max (a := x) (b := 0)).symm

variable (w : Fin 10 → Fin 4 → EReal) (cb : Fin 128 → Fin 10 → EReal) (p : Fin 32 → EReal) (t : Fin 8)

/-- The square distance to code `k`, as the reference writes it. -/
def d2 (k : Fin 128) : EReal :=
  (∑ d : Fin 10, z w p t d * z w p t d) - (∑ d : Fin 10, (((2 : ℝ) : EReal) * z w p t d) * cb k d) + ∑ d : Fin 10, cb k d * cb k d

/-- Over reals the encoded vector is real. -/
theorem z_real (hw : ∀ d j, ∃ r : ℝ, w d j = r) (hp : ∀ l, ∃ r : ℝ, p l = r) (d : Fin 10) : ∃ r : ℝ, z w p t d = r := by
  choose wr hw using hw
  choose pr hp using hp
  refine ⟨max (∑ j : Fin 4, wr d j * pr (lane t j)) 0, ?_⟩
  unfold z
  simp only [hw, hp, ← EReal.coe_mul, coe_sum, coe_max]

/-- Over reals the kernel's score is the distance less a term common to all codes. -/
theorem scores (hz : ∀ d, ∃ r : ℝ, z w p t d = r) (hc : ∀ k d, ∃ r : ℝ, cb k d = r) :
    ∃ (q : ℝ) (sr : Fin 128 → ℝ), ∀ k, d2 w cb p t k = ((q + sr k : ℝ) : EReal) ∧ s w cb p t k = (sr k : EReal) := by
  choose zr hz using hz
  choose cr hc using hc
  refine ⟨∑ d, zr d * zr d, fun k => ∑ d, (cr k d * (-2)) * zr d + ∑ d, cr k d * cr k d, fun k => ⟨?_, ?_⟩⟩
  · unfold d2
    simp only [hz, hc, ← EReal.coe_mul, coe_sum, ← EReal.coe_sub, ← EReal.coe_add]
    refine congrArg _ ?_
    have : ∑ d, (cr k d * (-2)) * zr d = -∑ d, 2 * zr d * cr k d := by
      rw [← Finset.sum_neg_distrib]
      exact Finset.sum_congr rfl fun d _ => by ring
    rw [this]
    ring
  · unfold s
    simp only [hz, hc, M2, Consts.neg_two, ← EReal.coe_mul, coe_sum, ← EReal.coe_add]

/-- The least entry is below all. -/
theorem least_le (f : Fin 128 → EReal) (k : Fin 128) : Finset.univ.fold min ⊤ f ≤ f k :=
  ((Finset.le_fold_min (s := Finset.univ) (b := ⊤) (f := f) _).mp le_rfl).2 k (Finset.mem_univ k)

/-- An entry strictly below the others is the least. -/
theorem least_eq (f : Fin 128 → EReal) (k₀ : Fin 128) (h : ∀ k, k ≠ k₀ → f k₀ < f k) : Finset.univ.fold min ⊤ f = f k₀ := by
  refine le_antisymm (least_le f k₀) ((Finset.le_fold_min _).mpr ⟨le_top, fun k _ => ?_⟩)
  by_cases e : k = k₀
  · rw [e]
  · exact (h k e).le

/-- Where exactly one entry equals the least, it is strictly below the others. -/
theorem least_one (f : Fin 128 → EReal)
    (h : (∑ k : Fin 128, hot f k) = 1) : ∃ k₀, ∀ k, k ≠ k₀ → f k₀ < f k := by
  classical
  have e : (∑ k : Fin 128, hot f k) = (((∑ k : Fin 128, if f k = Finset.univ.fold min ⊤ f then (1 : ℝ) else 0) : ℝ) : EReal) := by
    rw [← coe_sum]
    refine Finset.sum_congr rfl fun k _ => ?_
    unfold hot
    split <;> simp
  rw [e, ← EReal.coe_one, EReal.coe_eq_coe_iff, Finset.sum_boole] at h
  obtain ⟨k₀, hk⟩ := Finset.card_eq_one.mp (by exact_mod_cast h)
  have h₀ : f k₀ = Finset.univ.fold min ⊤ f := by
    have : k₀ ∈ ({k₀} : Finset (Fin 128)) := Finset.mem_singleton_self _
    rw [← hk] at this
    exact (Finset.mem_filter.mp this).2
  refine ⟨k₀, fun k hne => lt_of_le_of_ne (h₀ ▸ least_le f k) fun e => hne ?_⟩
  have : k ∈ Finset.univ.filter fun k => f k = Finset.univ.fold min ⊤ f :=
    Finset.mem_filter.mpr ⟨Finset.mem_univ _, e ▸ h₀⟩
  rw [hk] at this
  exact Finset.mem_singleton.mp this

/-- Over reals, where exactly one code is nearest, it is the one both find, and the kernel's difference is that code's. -/
theorem near (hw : ∀ d j, ∃ r : ℝ, w d j = r) (hp : ∀ l, ∃ r : ℝ, p l = r) (hc : ∀ k d, ∃ r : ℝ, cb k d = r)
    (h : (∑ k : Fin 128, hot (d2 w cb p t) k) = 1) :
    ∃ k₀, d2 w cb p t k₀ < ⊤ ∧ (∀ k, k ≠ k₀ → d2 w cb p t k₀ < d2 w cb p t k)
      ∧ (∀ k, oh w cb p t k = if k = k₀ then 1 else 0) ∧ ∀ c, dl w cb p t c = cb k₀ c - z w p t c := by
  obtain ⟨k₀, hk⟩ := least_one _ h
  obtain ⟨q, sr, hs⟩ := scores w cb p t (z_real w p t hw hp) hc
  have ho : ∀ k, oh w cb p t k = if k = k₀ then 1 else 0 := by
    have hl : ∀ k, k ≠ k₀ → s w cb p t k₀ < s w cb p t k := by
      intro k hne
      have := hk k hne
      rw [(hs k₀).1, (hs k).1, EReal.coe_lt_coe_iff] at this
      rw [(hs k₀).2, (hs k).2, EReal.coe_lt_coe_iff]
      linarith
    intro k
    unfold oh hot
    rw [least_eq (fun k' => s w cb p t k') k₀ hl]
    by_cases e : k = k₀
    · rw [if_pos (by rw [e]), if_pos e]
    · rw [if_neg (hl k e).ne', if_neg e]
  refine ⟨k₀, ?_, hk, ho, fun c => ?_⟩
  · rw [(hs k₀).1]
    exact EReal.coe_lt_top _
  · unfold dl
    have : (∑ k : Fin 128, (cb k c * M2) * oh w cb p t k) = cb k₀ c * M2 := by
      simp only [ho, mul_ite, mul_one, mul_zero]
      rw [Finset.sum_ite_eq' Finset.univ k₀]
      simp
    rw [this]
    obtain ⟨r, hr⟩ := hc k₀ c
    rw [hr, MH, M2, Consts.neg_half, Consts.neg_two, ← EReal.coe_mul, ← EReal.coe_mul]
    refine congrArg (fun x : ℝ => (x : EReal) - z w p t c) ?_
    ring

end Cert.Near

end
-- ==== Proof.PreFacts.lean ====
module

public import proofs.«01_k».proof.Pre_drawn
public import proofs.«01_k».proof.Proof.Near
public import Idealize.ShloMosaic.Lib.Pointwise
public import Idealize.ShloMosaic.Lib.Pipeline.ValueKit

@[expose] public section

/-! # What the precondition says, entry by entry -/

set_option maxRecDepth 16384

noncomputable section

namespace Cert.PreFacts

open Cert.Pre_drawn Idealize.ShloMosaic

/-- The shape relations of the precondition's operations. -/
theorem preFacts : Cert.Pre_drawn.Facts := by
  constructor <;> decide

variable [Cert.Pre_drawn.Facts] (a0 : FVec Ideal S16384x32 .f32) (a1 : IVec S16384x1 1) (a2 : FVec Ideal S10x1x4 .f32)
  (a3 : FVec Ideal S10 .f32) (a4 : FVec Ideal S128x10 .f32) (a5 : FVec Ideal S256x80 .f32) (a6 : FVec Ideal S256 .f32)
  (a7 : FVec Ideal S128x256 .f32) (a8 : FVec Ideal S128 .f32)

/-- A true bit is a true statement. -/
theorem of_bit {b : Prop} [Decidable b] (h : BitVec.ofBool (decide b) = 1#1) : b := by
  by_contra hb
  simp [hb] at h

/-- A number below infinity in size is real. -/
theorem real_of_abs (x : Ideal .f32) (h : BitVec.ofBool (decide (FloatOps.absf x < Ideal.ofBits .f32 0x7F800000#32)) = 1#1) :
    ∃ r : ℝ, x = (r : EReal) := by
  have h := of_bit h
  rw [Consts.inf] at h
  have h : max (x : EReal) (-x) < ⊤ := h
  have ht : (x : EReal) ≠ ⊤ := ((le_max_left _ _).trans_lt h).ne
  have hb : (x : EReal) ≠ ⊥ := by
    intro e
    have := (le_max_right (x : EReal) (-x)).trans_lt h
    rw [e, EReal.neg_bot] at this
    exact lt_irrefl _ this
  exact ⟨EReal.toReal x, (EReal.coe_toReal ht hb).symm⟩

/-- The input is real. -/
theorem row_real (h : (fn (F := Ideal) a0 a1 a2 a3 a4 a5 a6 a7 a8).1 = fun _ => 1#1) (B : Fin 16384) (l : Fin 32) :
    ∃ r : ℝ, a0 (ix2 B l) = (r : EReal) := by
  have h := congrFun h (ix2 B l)
  pointwise [fn, fn_part1, fn_part2] at h
  exact real_of_abs _ h

/-- The convolution's weights are real. -/
theorem conv_real (h : (fn (F := Ideal) a0 a1 a2 a3 a4 a5 a6 a7 a8).2.1 = fun _ => 1#1) (d : Fin 10) (j : Fin 4) :
    ∃ r : ℝ, a2 (ix3 d 0 j) = (r : EReal) := by
  have h := congrFun h (ix3 d 0 j)
  pointwise [fn, fn_part1, fn_part2] at h
  exact real_of_abs _ h

/-- The codes are real. -/
theorem code_real (h : (fn (F := Ideal) a0 a1 a2 a3 a4 a5 a6 a7 a8).2.2.1 = fun _ => 1#1) (k : Fin 128) (d : Fin 10) :
    ∃ r : ℝ, a4 (ix2 k d) = (r : EReal) := by
  have h := congrFun h (ix2 k d)
  pointwise [fn, fn_part1, fn_part2] at h
  exact real_of_abs _ h

/-- Nothing is padding. -/
theorem mask_zero (h : (fn (F := Ideal) a0 a1 a2 a3 a4 a5 a6 a7 a8).2.2.2.1 = fun _ => 1#1) (B : Fin 16384) :
    a1 (ix2 B 0) = 0#1 := by
  have h := congrFun h (ix2 B 0)
  pointwise [fn, fn_part1, fn_part2] at h
  generalize a1 (ix2 B 0) = b at h
  revert b
  decide

/-- The convolution's bias is zero. -/
theorem bias_conv (h : (fn (F := Ideal) a0 a1 a2 a3 a4 a5 a6 a7 a8).2.2.2.2.1 = fun _ => 1#1) (d : Fin 10) : a3 (ix1 d) = (0 : EReal) := by
  have h := congrFun h (ix1 d)
  pointwise [fn, fn_part1, fn_part2] at h
  exact of_bit h

/-- The first dense layer's bias is zero. -/
theorem bias_fc (h : (fn (F := Ideal) a0 a1 a2 a3 a4 a5 a6 a7 a8).2.2.2.2.2.1 = fun _ => 1#1) (d : Fin 256) : a6 (ix1 d) = (0 : EReal) := by
  have h := congrFun h (ix1 d)
  pointwise [fn, fn_part1, fn_part2] at h
  exact of_bit h

/-- The second dense layer's bias is zero. -/
theorem bias_mu (h : (fn (F := Ideal) a0 a1 a2 a3 a4 a5 a6 a7 a8).2.2.2.2.2.2.1 = fun _ => 1#1) (d : Fin 128) : a8 (ix1 d) = (0 : EReal) := by
  have h := congrFun h (ix1 d)
  pointwise [fn, fn_part1, fn_part2] at h
  exact of_bit h

/-- A bit read as a number. -/
theorem bit_number (b : Prop) [Decidable b] : (FloatOps.uitofp (F := Ideal) .f32 (BitVec.ofBool (decide b)) : EReal) = if b then 1 else 0 := by
  show ((((BitVec.ofBool (decide b)).toNat : ℕ) : ℝ) : EReal) = _
  by_cases h : b <;> simp [h]

/-- Exactly one code is nearest, vector by vector of the line. -/
theorem one_line (h : (fn (F := Ideal) a0 a1 a2 a3 a4 a5 a6 a7 a8).2.2.2.2.2.2.2 = fun _ => 1#1) (n : Fin 131072) :
    (∑ k : Fin 128, Spec.hot (Near.d2 (fun d j => a2 (ix3 d 0 j)) (fun k d => a4 (ix2 k d))
      (fun l => a0 (ix2 (⟨n.val / 8, by omega⟩ : Fin 16384) l)) ⟨n.val % 8, by omega⟩) k) = 1 := by
  have h := congrFun h (ix1 n)
  pointwise [fn, fn_part1, fn_part2] at h
  have h := of_bit h
  have hz : ∀ d : Fin 10, max (∑ j : Fin 4, a0 (ix2 (⟨n.val / 8, by omega⟩ : Fin 16384)
      (⟨n.val % 8 * 4 + j.val, by omega⟩ : Fin 32)) * a2 (ix3 d 0 j)) 0
      = Spec.z (fun d j => a2 (ix3 d 0 j)) (fun l => a0 (ix2 (⟨n.val / 8, by omega⟩ : Fin 16384) l)) ⟨n.val % 8, by omega⟩ d := by
    intro d
    unfold Spec.z
    refine congrArg (max · 0) (Finset.sum_congr rfl fun j _ => ?_)
    rw [mul_comm]
    refine congrArg (fun l => a2 (ix3 d 0 j) * a0 (ix2 (⟨n.val / 8, by omega⟩ : Fin 16384) l)) (Fin.ext ?_)
    show n.val % 8 * 4 + j.val = 4 * (n.val % 8) + j.val
    omega
  simp only [hz, Consts.two, Consts.inf, bit_number] at h
  refine Eq.trans (Finset.sum_congr rfl fun k _ => ?_) h
  unfold Spec.hot Near.d2
  congr

/-- Exactly one code is nearest. -/
theorem one_nearest (h : (fn (F := Ideal) a0 a1 a2 a3 a4 a5 a6 a7 a8).2.2.2.2.2.2.2 = fun _ => 1#1) (B : Fin 16384) (t : Fin 8) :
    (∑ k : Fin 128, Spec.hot (Near.d2 (fun d j => a2 (ix3 d 0 j)) (fun k d => a4 (ix2 k d)) (fun l => a0 (ix2 B l)) t) k) = 1 := by
  have h := one_line a0 a1 a2 a3 a4 a5 a6 a7 a8 h ⟨B.val * 8 + t.val, by omega⟩
  have h1 : ∀ h, (⟨(B.val * 8 + t.val) / 8, h⟩ : Fin 16384) = B := fun h => Fin.ext (by show (B.val * 8 + t.val) / 8 = B.val; omega)
  have h2 : ∀ h, (⟨(B.val * 8 + t.val) % 8, h⟩ : Fin 8) = t := fun h => Fin.ext (by show (B.val * 8 + t.val) % 8 = t.val; omega)
  simp only [h1, h2] at h
  exact h

end Cert.PreFacts

end
-- ==== Proof.KBlocks.lean ====
module
public import Idealize.ShloMosaic.Lib.Claim
public import Idealize.ShloMosaic.Lib.Pipeline.ValueKit
public import Idealize.ShloMosaic.Lib.Pointwise
public import proofs.«01_k».proof.Proof.Gen.KernelIdeal.Skeleton
public import proofs.«01_k».proof.Proof.Consts

/-! What one grid point of the kernel computes, entry by entry, on the extended reals. A row of the kernel's 128-row
tiles is `16 t + c` (time step `t`, channel `c` of 16, ten of them real); a row of its 1024-row tiles is `128 t + k`
(time step `t`, code `k`). -/

@[expose] public section
set_option maxRecDepth 16384
noncomputable section
namespace Cert.KBlocks
open Idealize.ShloMosaic Cert.KernelIdeal.Gen Cert.KernelIdeal

/-- Row `16 t + c`. -/
abbrev chan (t : Fin 8) (c : Fin 16) : Fin 128 := ⟨16 * t.val + c.val, by omega⟩

/-- Row `128 t + k`. -/
abbrev code (t : Fin 8) (k : Fin 128) : Fin 1024 := ⟨128 * t.val + k.val, by omega⟩

/-- Column `4 t + w` of the input. -/
abbrev lane (t : Fin 8) (w : Fin 4) : Fin 32 := ⟨4 * t.val + w.val, by omega⟩

/-! ## Eight copies side by side -/

section copies
variable {α : Type}

/-- Eight copies of an array on top of one another, read at a row. -/
theorem rep8_row {a b n : Nat} (x : (⟨2, ![a, b]⟩ : Shape).Idx → α)
    (h : Shape.Concatenates (([⟨_, x⟩, ⟨_, x⟩, ⟨_, x⟩, ⟨_, x⟩, ⟨_, x⟩, ⟨_, x⟩, ⟨_, x⟩, ⟨_, x⟩] : List ((s : Shape) × (s.Idx → α))).map (·.1)) ⟨2, ![n, b]⟩ 0)
    (i : Fin n) (k : Fin a) (d : Fin b) (hi : i.val % a = k.val) :
    concatenate ⟨2, ![n, b]⟩ 0 [⟨_, x⟩, ⟨_, x⟩, ⟨_, x⟩, ⟨_, x⟩, ⟨_, x⟩, ⟨_, x⟩, ⟨_, x⟩, ⟨_, x⟩] h (ix2 i d) = x (ix2 k d) := by
  refine concatenate_replicate_apply (s₁ := ⟨2, ![a, b]⟩) (t := ⟨2, ![n, b]⟩) (0 : Fin 2) 8 x h rfl (ix2 i d) (ix2 k d) hi.symm ?_
  intro c hc
  match c with
  | ⟨0, _⟩ => exact absurd rfl hc
  | ⟨1, _⟩ => rfl

/-- Eight copies of an array next to one another, read at a column. -/
theorem rep8_col {a b n : Nat} (x : (⟨2, ![a, b]⟩ : Shape).Idx → α)
    (h : Shape.Concatenates (([⟨_, x⟩, ⟨_, x⟩, ⟨_, x⟩, ⟨_, x⟩, ⟨_, x⟩, ⟨_, x⟩, ⟨_, x⟩, ⟨_, x⟩] : List ((s : Shape) × (s.Idx → α))).map (·.1)) ⟨2, ![a, n]⟩ 1)
    (i : Fin a) (k : Fin n) (d : Fin b) (hi : k.val % b = d.val) :
    concatenate ⟨2, ![a, n]⟩ 1 [⟨_, x⟩, ⟨_, x⟩, ⟨_, x⟩, ⟨_, x⟩, ⟨_, x⟩, ⟨_, x⟩, ⟨_, x⟩, ⟨_, x⟩] h (ix2 i k) = x (ix2 i d) := by
  refine concatenate_replicate_apply (s₁ := ⟨2, ![a, b]⟩) (t := ⟨2, ![a, n]⟩) (1 : Fin 2) 8 x h rfl (ix2 i k) (ix2 i d) hi.symm ?_
  intro c hc
  match c with
  | ⟨0, _⟩ => rfl
  | ⟨1, _⟩ => exact absurd rfl hc

end copies

/-- A select on the equality of two small words. -/
theorem select_eq (t u : Fin 8) (a b : EReal) :
    Scalar.select (IntOp.cmpi .eq (BitVec.ofNat 32 t.val) (BitVec.ofNat 32 u.val)) a b = if t = u then a else b := by
  have h : IntOp.cmpi .eq (BitVec.ofNat 32 t.val) (BitVec.ofNat 32 u.val) = BitVec.ofBool (decide (t = u)) := by
    revert t u
    decide +kernel
  rw [h]
  pointwise

/-- The programs' division of a word rounding down: the quotient, less one where the signs differ and a remainder is left. -/
def floorWord (b x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt b 0#32)) (Scalar.extui (Scalar.cmpi CmpIPredicate.slt b 0#32))))
      (IntOp.cmpi CmpIPredicate.ne (IntOp.remsi ArithUnit.vector x b) 0#32))
    (IntOp.subi (IntOp.divsi ArithUnit.vector x b) 1#32)
    (IntOp.divsi ArithUnit.vector x b)

/-- The programs' remainder of a word by sixteen, of the sign of the divisor. -/
def remWord (x : BitVec 32) : BitVec 32 :=
  Scalar.select
    (IntOp.andi
      (IntOp.xori
        (IntOp.cmpi CmpIPredicate.slt
          (IntOp.remsi ArithUnit.vector x (Scalar.select (Scalar.cmpi CmpIPredicate.eq 16#32 0#32) 1#32 16#32)) 0#32)
        (Scalar.cmpi CmpIPredicate.slt (Scalar.select (Scalar.cmpi CmpIPredicate.eq 16#32 0#32) 1#32 16#32) 0#32))
      (IntOp.cmpi CmpIPredicate.ne
        (IntOp.remsi ArithUnit.vector x (Scalar.select (Scalar.cmpi CmpIPredicate.eq 16#32 0#32) 1#32 16#32)) 0#32))
    (IntOp.addi
      (IntOp.remsi ArithUnit.vector x (Scalar.select (Scalar.cmpi CmpIPredicate.eq 16#32 0#32) 1#32 16#32))
      (Scalar.select (Scalar.cmpi CmpIPredicate.eq 16#32 0#32) 1#32 16#32))
    (IntOp.remsi ArithUnit.vector x (Scalar.select (Scalar.cmpi CmpIPredicate.eq 16#32 0#32) 1#32 16#32))

/-- A row's or column's time step, by rows of sixteen. -/
theorem floor16 (t : Fin 8) (c : Fin 16) : floorWord 16#32 (BitVec.ofNat 32 (16 * t.val + c.val)) = BitVec.ofNat 32 t.val := by
  revert t c
  decide +kernel

/-- A row's time step, by rows of 128. -/
theorem floor128 (t : Fin 8) (k : Fin 128) : floorWord 128#32 (BitVec.ofNat 32 (128 * t.val + k.val)) = BitVec.ofNat 32 t.val := by
  revert t k
  decide +kernel

/-- A column's channel. -/
theorem rem16 (t : Fin 8) (c : Fin 16) : remWord (BitVec.ofNat 32 (16 * t.val + c.val)) = BitVec.ofNat 32 c.val := by
  revert t c
  decide +kernel

/-- The permutation's test. -/
theorem perm_word (x : Fin 80) (t : Fin 8) (c : Fin 16) :
    IntOp.andi (IntOp.cmpi CmpIPredicate.eq (BitVec.ofNat 32 x.val)
        (IntOp.addi (IntOp.muli (8#32) (BitVec.ofNat 32 c.val)) (BitVec.ofNat 32 t.val)))
      (IntOp.cmpi CmpIPredicate.slt (BitVec.ofNat 32 c.val) 10#32) = BitVec.ofBool (decide (x.val = 8 * c.val + t.val ∧ c.val < 10)) := by
  revert x t c
  decide +kernel

/-! ## The tables of the first grid point -/

/-- The filter bank padded to sixteen channels. -/
def padW (w : Vec Ideal S10x4 .f32) (c : Fin 16) (j : Fin 4) : EReal := if h : c.val < 10 then w (ix2 ⟨c.val, h⟩ j) else 0

/-- Minus twice the code book, padded to sixteen channels. -/
def padC (cb : Vec Ideal S128x10 .f32) (k : Fin 128) (d : Fin 16) : EReal :=
  if h : d.val < 10 then cb (ix2 k ⟨d.val, h⟩) * Ideal.ofBits .f32 0xC0000000#32 else 0

/-- The first table holds the padded filters, tiled. -/
theorem pay5_apply (w : Vec Ideal S10x4 .f32) (t u : Fin 8) (c : Fin 16) (j : Fin 4) :
    k0_pay5 w (ix2 (chan t c) (lane u j)) = padW w c j := by
  unfold k0_pay5
  refine (rep8_col _ _ _ _ j (by show (4 * u.val + j.val) % 4 = j.val; omega)).trans ?_
  refine (rep8_row _ _ _ c _ (by show (16 * t.val + c.val) % 16 = c.val; omega)).trans ?_
  unfold padW
  pointwise

/-- The row's time step. -/
theorem pay6_apply (t : Fin 8) (c : Fin 16) (l : Fin 32) : k0_pay6 (ix2 (chan t c) l) = BitVec.ofNat 32 t.val := by
  have h : ∀ r : Fin 128, k0_pay6 (ix2 r l) = BitVec.ofNat 32 (r.val / 16) := by
    intro r
    pointwise [k0_pay6]
    revert r
    decide +kernel
  rw [h]
  congr 1
  show (16 * t.val + c.val) / 16 = t.val
  omega

/-- The first table keeps an entry where the row's and the column's time steps agree. -/
theorem pay9_apply (v : FVec Ideal S128x32 .f32) (t u : Fin 8) (c : Fin 16) (j : Fin 4) :
    k0_pay9 v (iota .tc S128x32 32 [1] iota_S128x32_d1_w32) k0_pay6 4#32 k0_pay7 k0_pay8 (ix2 (chan t c) (lane u j))
      = if t = u then v (ix2 (chan t c) (lane u j)) else 0 := by
  have h : floorWord 4#32 (BitVec.ofNat 32 (4 * u.val + j.val)) = BitVec.ofNat 32 u.val := by
    revert u j
    decide +kernel
  unfold floorWord at h
  pointwise [k0_pay9, k0_pay7, k0_pay8]
  rw [h, pay6_apply, select_eq]

/-- The first table: the filters on the block diagonal. -/
theorem w32_apply (w : Vec Ideal S10x4 .f32) (t u : Fin 8) (c : Fin 16) (j : Fin 4) :
    k0_pay9 (k0_pay5 w) (iota .tc S128x32 32 [1] iota_S128x32_d1_w32) k0_pay6 4#32 k0_pay7 k0_pay8 (ix2 (chan t c) (lane u j))
      = if t = u then padW w c j else 0 := by
  rw [pay9_apply, pay5_apply]

/-- The second table holds minus twice the codes, tiled. -/
theorem pay10_apply (v : Vec Ideal S128x10 .f32) (t u : Fin 8) (k : Fin 128) (d : Fin 16) :
    k0_pay10 v (ix2 (code t k) (chan u d)) = padC v k d := by
  unfold k0_pay10
  refine (rep8_col _ _ _ _ d (by show (16 * u.val + d.val) % 16 = d.val; omega)).trans ?_
  refine (rep8_row _ _ _ k _ (by show (128 * t.val + k.val) % 128 = k.val; omega)).trans ?_
  unfold padC
  pointwise

/-- The second table keeps an entry where the row's and the column's time steps agree. -/
theorem pay13_apply (v : FVec Ideal S1024x128 .f32) (t u : Fin 8) (k : Fin 128) (d : Fin 16) :
    k0_pay13 v (iota .tc S1024x128 32 [0] iota_S1024x128_d0_w32) (iota .tc S1024x128 32 [1] iota_S1024x128_d1_w32) 128#32 k0_pay11 k0_pay12
        (ix2 (code t k) (chan u d)) = if t = u then v (ix2 (code t k) (chan u d)) else 0 := by
  have h := floor128 t k
  have h' := floor16 u d
  unfold floorWord at h h'
  pointwise [k0_pay13, k0_pay11, k0_pay12]
  rw [h, h', select_eq]

/-- The second table: minus twice the codes, on the block diagonal. -/
theorem cbd_apply (v : Vec Ideal S128x10 .f32) (t u : Fin 8) (k : Fin 128) (d : Fin 16) :
    k0_pay13 (k0_pay10 v) (iota .tc S1024x128 32 [0] iota_S1024x128_d0_w32) (iota .tc S1024x128 32 [1] iota_S1024x128_d1_w32) 128#32 k0_pay11
        k0_pay12 (ix2 (code t k) (chan u d)) = if t = u then padC v k d else 0 := by
  rw [pay13_apply, pay10_apply]

/-- The third table: each code's square, tiled. -/
theorem cb2_apply (v : Vec Ideal S128x10 .f32) (t : Fin 8) (k : Fin 128) :
    k0_pay14 v (ix2 (code t k) 0) = ∑ d : Fin 10, v (ix2 k d) * v (ix2 k d) := by
  have h : ∀ x : FVec Ideal S1024x1 .f32, shapeCast S1024x1 x shapeCasts_S1024x1_S1024x1 (ix2 (code t k) 0) = x (ix2 (code t k) 0) := by
    intro x
    pointwise
  unfold k0_pay14
  refine (h _).trans ((rep8_row _ _ _ k _ (by show (128 * t.val + k.val) % 128 = k.val; omega)).trans ?_)
  pointwise

/-- The fourth table: the first dense layer's weights with their columns permuted from `8 c + t` to `16 t + c`. -/
theorem wfc_apply (v : Vec Ideal S256x80 .f32) (e : Fin 256) (t : Fin 8) (c : Fin 16) :
    k0_pay18 (iota .tc S80x128 32 [0] iota_S80x128_d0_w32) (iota .tc S80x128 32 [1] iota_S80x128_d1_w32) k0_pay15 16#32 k0_pay16 k0_pay17 (Scalar.subi (Scalar.extui (Scalar.cmpi .sgt 16#32 0#32)) (Scalar.extui (Scalar.cmpi .slt 16#32 0#32))) v
        (ix2 e (chan t c)) = if h : c.val < 10 then v (ix2 e ⟨8 * c.val + t.val, by omega⟩) else 0 := by
  have h := rem16 t c
  have h' := floor16 t c
  unfold floorWord at h'
  unfold remWord at h
  pointwise [k0_pay18, k0_pay15, k0_pay16, k0_pay17]
  simp only [h, h', perm_word]
  pointwise
  by_cases hc : c.val < 10
  · rw [dif_pos hc, Finset.sum_eq_single ⟨8 * c.val + t.val, by omega⟩]
    · simp [hc]
    · intro x _ hx
      have : ¬ x.val = 8 * c.val + t.val := fun e => hx (Fin.ext e)
      simp [this]
    · simp
  · simp [hc]

end Cert.KBlocks
end
-- ==== Proof.KPoint.lean ====
module
public import Idealize.ShloMosaic.Lib.Claim
public import Idealize.ShloMosaic.Lib.Pipeline.ValueKit
public import Idealize.ShloMosaic.Lib.Pointwise
public import proofs.«01_k».proof.Proof.KBlocks
public import proofs.«01_k».proof.Proof.Spec

/-! The values a grid point stores, from its block of the input and the four tables, in the terms of `Cert.Spec`. -/

@[expose] public section
set_option maxRecDepth 16384
noncomputable section
namespace Cert.KPoint
open Idealize.ShloMosaic Cert.KernelIdeal.Gen Cert.KernelIdeal Cert.KBlocks

/-! ## Sums over the tiled axes -/

/-- A sum over the 32 samples, time step by time step. -/
theorem sum_lanes (f : Fin 32 → EReal) : ∑ l, f l = ∑ u : Fin 8, ∑ j : Fin 4, f (lane u j) := by
  rw [Fin.sum_univ_tiles 8 4 rfl]
  exact Finset.sum_congr rfl fun u _ => Finset.sum_congr rfl fun j _ => congrArg f (Fin.ext (by show u.val * 4 + j.val = 4 * u.val + j.val; omega))

/-- A sum over the 128 rows, time step by time step. -/
theorem sum_chans (f : Fin 128 → EReal) : ∑ l, f l = ∑ u : Fin 8, ∑ c : Fin 16, f (chan u c) := by
  rw [Fin.sum_univ_tiles 8 16 rfl]
  exact Finset.sum_congr rfl fun u _ => Finset.sum_congr rfl fun j _ => congrArg f (Fin.ext (by show u.val * 16 + j.val = 16 * u.val + j.val; omega))

/-- A sum over the 1024 rows, time step by time step. -/
theorem sum_codes (f : Fin 1024 → EReal) : ∑ l, f l = ∑ u : Fin 8, ∑ k : Fin 128, f (code u k) := by
  rw [Fin.sum_univ_tiles 8 128 rfl]
  exact Finset.sum_congr rfl fun u _ => Finset.sum_congr rfl fun j _ => congrArg f (Fin.ext (by show u.val * 128 + j.val = 128 * u.val + j.val; omega))

/-- A sum over sixteen channels that vanishes on the padded ones. -/
theorem sum_pad (f : (c : Fin 16) → c.val < 10 → EReal) :
    (∑ c : Fin 16, if h : c.val < 10 then f c h else 0) = ∑ c : Fin 10, f ⟨c.val, by omega⟩ c.isLt := by
  rw [Fin.sum_univ_add (a := 10) (b := 6)]
  have h2 : (∑ i : Fin 6, if h : (Fin.natAdd 10 i : Fin 16).val < 10 then f (Fin.natAdd 10 i) h else 0) = 0 :=
    Finset.sum_eq_zero fun i _ => dif_neg (by show ¬ 10 + i.val < 10; omega)
  rw [h2, add_zero]
  exact Finset.sum_congr rfl fun c _ => dif_pos c.isLt

/-- A sum over time steps of terms that vanish off one of them. -/
theorem sum_diag (t : Fin 8) (f : Fin 8 → EReal) : (∑ u : Fin 8, if t = u then f u else 0) = f t := by
  rw [Finset.sum_ite_eq]
  simp

/-! ## The tables -/

/-- The first table. -/
abbrev t32 (w : Vec Ideal S10x4 .f32) : Vec Ideal S128x32 .f32 :=
  k0_pay9 (k0_pay5 w) (iota .tc S128x32 32 [1] iota_S128x32_d1_w32) k0_pay6 4#32 k0_pay7 k0_pay8

/-- The second table. -/
abbrev tcb (cb : Vec Ideal S128x10 .f32) : Vec Ideal S1024x128 .f32 :=
  k0_pay13 (k0_pay10 cb) (iota .tc S1024x128 32 [0] iota_S1024x128_d0_w32) (iota .tc S1024x128 32 [1] iota_S1024x128_d1_w32) 128#32 k0_pay11
    k0_pay12

/-- The third table. -/
abbrev tsq (cb : Vec Ideal S128x10 .f32) : Vec Ideal S1024x1 .f32 := k0_pay14 cb

/-- The fourth table. -/
abbrev tfc (v : Vec Ideal S256x80 .f32) : Vec Ideal S256x128 .f32 :=
  k0_pay18 (iota .tc S80x128 32 [0] iota_S80x128_d0_w32) (iota .tc S80x128 32 [1] iota_S80x128_d1_w32) k0_pay15 16#32 k0_pay16 k0_pay17
    (Scalar.subi (Scalar.extui (Scalar.cmpi .sgt 16#32 0#32)) (Scalar.extui (Scalar.cmpi .slt 16#32 0#32))) v

variable (x : Vec Ideal S4096x32 .f32) (w : Vec Ideal S10x4 .f32) (cb : Vec Ideal S128x10 .f32) (fc : Vec Ideal S256x80 .f32)

/-- The filters as a function of channel and sample. -/
abbrev fW : Fin 10 → Fin 4 → EReal := fun c j => w (ix2 c j)
/-- The codes as a function of code and channel. -/
abbrev fC : Fin 128 → Fin 10 → EReal := fun k d => cb (ix2 k d)
/-- A row of the block. -/
abbrev fP (b : Fin 4096) : Fin 32 → EReal := fun l => x (ix2 b l)

/-- The convolution. -/
theorem z_apply (t : Fin 8) (c : Fin 16) (b : Fin 4096) :
    k0_pay21 x (t32 w) (ix2 (chan t c) b) = if h : c.val < 10 then Spec.z (fW w) (fP x b) t ⟨c.val, h⟩ else 0 := by
  pointwise [k0_pay21]
  rw [sum_lanes]
  simp only [w32_apply, ite_mul, zero_mul, Finset.sum_ite_irrel, Finset.sum_const_zero]
  rw [sum_diag]
  unfold padW Spec.z
  by_cases h : c.val < 10
  · simp only [dif_pos h]
  · simp only [dif_neg h, zero_mul, Finset.sum_const_zero, max_self]

/-- The distances less the squares. -/
theorem s_apply (t : Fin 8) (k : Fin 128) (b : Fin 4096) :
    k0_pay22 x (t32 w) (tcb cb) (tsq cb) (ix2 (code t k) b) = Spec.s (fW w) (fC cb) (fP x b) t k := by
  pointwise [k0_pay22]
  rw [sum_chans]
  refine congrArg₂ (· + ·) ?_ (cb2_apply cb t k)
  simp only [cbd_apply, ite_mul, zero_mul, Finset.sum_ite_irrel, Finset.sum_const_zero]
  rw [sum_diag]
  simp only [z_apply]
  refine Eq.trans (Finset.sum_congr rfl fun d _ => ?_) (sum_pad fun d h => (cb (ix2 k ⟨d.val, h⟩) * Spec.M2) * Spec.z (fW w) (fP x b) t ⟨d.val, h⟩)
  unfold padC
  by_cases h : d.val < 10
  · simp only [dif_pos h]
  · simp only [dif_neg h, zero_mul]

/-- A comparison's bit, widened and converted. -/
theorem sitofp_bit (p : Prop) [Decidable p] :
    FloatOps.sitofp (F := Ideal) .f32 (BitVec.setWidth 32 (BitVec.ofBool (decide p))) = if p then (1 : EReal) else 0 := by
  by_cases h : p
  · rw [if_pos h, decide_eq_true h]
    show ((((BitVec.setWidth 32 (BitVec.ofBool true)).toInt : ℝ)) : EReal) = 1
    rw [show (BitVec.setWidth 32 (BitVec.ofBool true)).toInt = 1 from by decide]
    simp
  · rw [if_neg h, decide_eq_false h]
    show ((((BitVec.setWidth 32 (BitVec.ofBool false)).toInt : ℝ)) : EReal) = 0
    rw [show (BitVec.setWidth 32 (BitVec.ofBool false)).toInt = 0 from by decide]
    simp

/-- One piece of the indicator, from the rows it reads. -/
theorem hot_of (f : Fin 1024 → EReal) (q : Fin 1024) (g : Fin 128 → Fin 1024) (t : Fin 8) (k : Fin 128) (hq : q = code t k)
    (hg : ∀ i, g i = code t i) :
    FloatOps.sitofp (F := Ideal) .f32 (BitVec.setWidth 32 (BitVec.ofBool (decide
      (f q = Finset.fold min (Ideal.ofBits FTy.f32 0x7F800000#32) (fun i => f (g i)) Finset.univ)))) = Spec.hot (fun i => f (code t i)) k := by
  have : g = code t := funext hg
  subst hq this
  rw [sitofp_bit, Consts.inf]
  unfold Spec.hot
  congr

/-- The indicators of the least entries. -/
theorem oh_apply (y : Vec Ideal S1024x128 .f32) (v : Vec Ideal S1024x1 .f32) (u : Vec Ideal S128x32 .f32) (t : Fin 8) (k : Fin 128) (b : Fin 4096) :
    k0_pay27 (k0_pay22 x u y v) (k0_pay23 x u y v) (k0_pay24 x u y v) (k0_pay25 x u y v) (k0_pay26 x u y v) (ix2 (code t k) b)
      = Spec.hot (fun i => k0_pay22 x u y v (ix2 (code t i) b)) k := by
  obtain ⟨t, ht⟩ := t
  pointwise [k0_pay27, k0_pay23, k0_pay24, k0_pay25, k0_pay26]
  interval_cases t
  all_goals
    repeat rw [dif_neg (by omega)]
    try rw [dif_pos (by omega)]
    refine hot_of (fun r => k0_pay22 x u y v (ix2 r b)) _ _ _ k (Fin.ext ?_) (fun i => Fin.ext ?_)
    all_goals dsimp only
    all_goals omega

/-- The one-hot rows. -/
theorem oh_eq (t : Fin 8) (k : Fin 128) (b : Fin 4096) :
    k0_pay27 (k0_pay22 x (t32 w) (tcb cb) (tsq cb)) (k0_pay23 x (t32 w) (tcb cb) (tsq cb)) (k0_pay24 x (t32 w) (tcb cb) (tsq cb))
      (k0_pay25 x (t32 w) (tcb cb) (tsq cb)) (k0_pay26 x (t32 w) (tcb cb) (tsq cb)) (ix2 (code t k) b)
      = Spec.oh (fW w) (fC cb) (fP x b) t k := by
  rw [oh_apply]
  unfold Spec.oh
  simp only [s_apply]

/-- The one-hot block. -/
abbrev boh : FVec Ideal S1024x4096 .f32 :=
  k0_pay27 (k0_pay22 x (t32 w) (tcb cb) (tsq cb)) (k0_pay23 x (t32 w) (tcb cb) (tsq cb)) (k0_pay24 x (t32 w) (tcb cb) (tsq cb))
      (k0_pay25 x (t32 w) (tcb cb) (tsq cb)) (k0_pay26 x (t32 w) (tcb cb) (tsq cb))

/-- The block of differences. -/
abbrev bdl : FVec Ideal S128x4096 .f32 :=
  k0_pay28 (k0_pay21 x (t32 w)) (k0_pay22 x (t32 w) (tcb cb) (tsq cb)) (k0_pay23 x (t32 w) (tcb cb) (tsq cb)) (k0_pay24 x (t32 w) (tcb cb) (tsq cb))
      (k0_pay25 x (t32 w) (tcb cb) (tsq cb)) (k0_pay26 x (t32 w) (tcb cb) (tsq cb)) (tcb cb)

/-- The block of straight-through vectors. -/
abbrev bzq : FVec Ideal S128x4096 .f32 :=
  k0_pay29 (k0_pay21 x (t32 w)) (k0_pay22 x (t32 w) (tcb cb) (tsq cb)) (k0_pay23 x (t32 w) (tcb cb) (tsq cb)) (k0_pay24 x (t32 w) (tcb cb) (tsq cb))
      (k0_pay25 x (t32 w) (tcb cb) (tsq cb)) (k0_pay26 x (t32 w) (tcb cb) (tsq cb)) (tcb cb)

/-- The differences. -/
theorem dl_apply (t : Fin 8) (c : Fin 16) (b : Fin 4096) :
    bdl x w cb (ix2 (chan t c) b) = if h : c.val < 10 then Spec.dl (fW w) (fC cb) (fP x b) t ⟨c.val, h⟩ else 0 := by
  pointwise [k0_pay28]
  rw [sum_codes, z_apply]
  simp only [cbd_apply, ite_mul, zero_mul, Finset.sum_ite_irrel, Finset.sum_const_zero, oh_eq]
  have hd : (∑ u : Fin 8, if u = t then ∑ k : Fin 128, padC cb k c * Spec.oh (fW w) (fC cb) (fP x b) u k else 0)
      = ∑ k : Fin 128, padC cb k c * Spec.oh (fW w) (fC cb) (fP x b) t k := by
    rw [Finset.sum_ite_eq']
    simp
  rw [hd]
  unfold padC Spec.dl
  by_cases h : c.val < 10
  · simp only [dif_pos h]
  · simp only [dif_neg h, zero_mul, Finset.sum_const_zero, mul_zero, sub_zero]

/-- The straight-through vectors. -/
theorem zq_apply (t : Fin 8) (c : Fin 16) (b : Fin 4096) :
    bzq x w cb (ix2 (chan t c) b)
      = if h : c.val < 10 then Spec.z (fW w) (fP x b) t ⟨c.val, h⟩ + Spec.dl (fW w) (fC cb) (fP x b) t ⟨c.val, h⟩ else 0 := by
  have := dl_apply x w cb t c b
  pointwise [k0_pay29]
  refine (congrArg₂ (· + ·) (z_apply x w t c b) this).trans ?_
  by_cases h : c.val < 10
  · simp only [dif_pos h]
  · simp only [dif_neg h, add_zero]

/-- The block of the first result. -/
theorem out_apply (mu : Vec Ideal S128x256 .f32) (b : Fin 4096) (o : Fin 128) :
    k0_pay2 (bzq x w cb) (tfc fc) mu (ix2 b o)
      = Spec.out (fW w) (fC cb) (fun e l => fc (ix2 e l)) (fun o e => mu (ix2 o e)) (fP x b) o := by
  pointwise [k0_pay2]
  unfold Spec.out
  refine Finset.sum_congr rfl fun e _ => ?_
  congr 1
  rw [sum_chans]
  refine Finset.sum_congr rfl fun t _ => ?_
  refine Eq.trans (Finset.sum_congr rfl fun c _ => ?_) (sum_pad fun c h => fc (ix2 e ⟨8 * c.val + t.val, by omega⟩) *
    (Spec.z (fW w) (fP x b) t ⟨c.val, h⟩ + Spec.dl (fW w) (fC cb) (fP x b) t ⟨c.val, h⟩))
  refine (congrArg₂ (· * ·) (wfc_apply fc e t c) (zq_apply x w cb t c b)).trans ?_
  by_cases h : c.val < 10
  · simp only [dif_pos h]
  · simp only [dif_neg h, zero_mul]

/-- The counts with one block added. -/
abbrev bct (y : Vec Ideal S1024x1 .f32) : FVec Ideal S1024x1 .f32 :=
  k0_pay30 (k0_pay22 x (t32 w) (tcb cb) (tsq cb)) (k0_pay23 x (t32 w) (tcb cb) (tsq cb)) (k0_pay24 x (t32 w) (tcb cb) (tsq cb))
      (k0_pay25 x (t32 w) (tcb cb) (tsq cb)) (k0_pay26 x (t32 w) (tcb cb) (tsq cb)) y

/-- The counts, one block added. -/
theorem counts_apply (y : Vec Ideal S1024x1 .f32) (t : Fin 8) (k : Fin 128) :
    bct x w cb y (ix2 (code t k) 0)
      = y (ix2 (code t k) 0) + ∑ b : Fin 4096, Spec.oh (fW w) (fC cb) (fP x b) t k := by
  have h : ∀ (v13 : FVec Ideal S1024x4096 .f32) (a b c : FVec Ideal S128x4096 .f32) (d : IVec S128x4096 32) (r : Fin 1024),
      k0_pay30 v13 a b c d y (ix2 r 0) = y (ix2 r 0) + ∑ i : Fin 4096, k0_pay27 v13 a b c d (ix2 r i) := by
    intro v13 a b c d r
    pointwise [k0_pay30]
  exact (h _ _ _ _ _ _).trans (congrArg₂ (· + ·) rfl (Finset.sum_congr rfl fun b _ => oh_eq x w cb t k b))

/-- The square error of a block that vanishes on the padded channels, added up. -/
theorem err_of (d : FVec Ideal S128x4096 .f32) (y : FVec Ideal S1x1 .f32) (D : Fin 4096 → Fin 8 → Fin 10 → EReal)
    (hd : ∀ t c b, d (ix2 (chan t c) b) = if h : c.val < 10 then D b t ⟨c.val, h⟩ else 0) :
    k0_pay1 d y (ix2 0 0) = y (ix2 0 0) + ∑ b : Fin 4096, ∑ t : Fin 8, ∑ c : Fin 10, D b t c * D b t c := by
  have h : k0_pay1 d y (ix2 0 0) = y (ix2 0 0) + ∑ r : Fin 128, ∑ b : Fin 4096, d (ix2 r b) * d (ix2 r b) := by
    pointwise [k0_pay1]
  rw [h]
  refine congrArg (y (ix2 0 0) + ·) ?_
  rw [Finset.sum_comm]
  refine Finset.sum_congr rfl fun b _ => ?_
  rw [sum_chans]
  refine Finset.sum_congr rfl fun t _ => ?_
  refine Eq.trans (Finset.sum_congr rfl fun c _ => ?_) (sum_pad fun c h => D b t ⟨c.val, h⟩ * D b t ⟨c.val, h⟩)
  rw [hd]
  by_cases h : c.val < 10
  · simp only [dif_pos h]
  · simp only [dif_neg h, zero_mul]

/-- The square error, one block added. -/
theorem err_apply (y : FVec Ideal S1x1 .f32) :
    k0_pay1 (bdl x w cb) y (ix2 0 0) = y (ix2 0 0) + ∑ b : Fin 4096, Spec.err (fW w) (fC cb) (fP x b) :=
  err_of (bdl x w cb) y (fun b => Spec.dl (fW w) (fC cb) (fP x b)) (dl_apply x w cb)

end Cert.KPoint
end
-- ==== Proof.KArrays.lean ====
module

public import Idealize.ShloMosaic.Lib.Pipeline.ReadBack
public import proofs.«01_k».proof.Proof.KPoint
public import proofs.«01_k».proof.Proof.Gen.KernelIdeal.Value

@[expose] public section

/-! # What the kernel's buffers hold at each point, and the arrays it leaves -/

set_option maxRecDepth 16384

noncomputable section

namespace Cert.KArrays

open Idealize.ShloMosaic Idealize.ShloMosaic.TcCoe Cert.KernelIdeal Cert.KernelIdeal.Gen Cert.KPoint Cert.KBlocks

variable (m : (ℓ : Loc nD τ sig) → Buf (Elt Ideal) ℓ) (c : Dev nD)

/-- Where each input window's block lies at each point. -/
theorem idx : ∀ t : Fin cfg0.N, win0_0.index t = ![t.val, 0] ∧ win0_1.index t = ![0, 0] ∧ win0_2.index t = ![0, 0] ∧
    win0_3.index t = ![0, 0] ∧ win0_4.index t = ![0, 0] := (by decide +kernel : ∀ t : Fin grid0.N, _)

/-- Where the output's block lies at each point. -/
theorem idx5 : ∀ t : Fin cfg0.N, win0_5.index t = ![t.val, 0] := (by decide +kernel : ∀ t : Fin grid0.N, _)

/-- The filter as the kernel finds it. -/
abbrev aW : Vec Ideal S10x4 .f32 := V m c main_v0
/-- The codebook as the kernel finds it. -/
abbrev aC : Vec Ideal S128x10 .f32 := V m c main_arg4
/-- The first dense layer as the kernel finds it. -/
abbrev aF : Vec Ideal S256x80 .f32 := V m c main_arg5
/-- The second dense layer as the kernel finds it. -/
abbrev aM : Vec Ideal S128x256 .f32 := V m c main_arg7
/-- The block of input rows at a point. -/
abbrev bX (t : Fin cfg0.N) : Vec Ideal S4096x32 .f32 := iblk m c 0 t

/-- Every point sees the whole filter. -/
theorem blk1 (t : Fin cfg0.N) : iblk m c 1 t = aW m c := by
  funext y
  blk_ext [iblk, idx t]
/-- Every point sees the whole codebook. -/
theorem blk2 (t : Fin cfg0.N) : iblk m c 2 t = aC m c := by
  funext y
  blk_ext [iblk, idx t]
/-- Every point sees the whole first dense layer. -/
theorem blk3 (t : Fin cfg0.N) : iblk m c 3 t = aF m c := by
  funext y
  blk_ext [iblk, idx t]
/-- Every point sees the whole second dense layer. -/
theorem blk4 (t : Fin cfg0.N) : iblk m c 4 t = aM m c := by
  funext y
  blk_ext [iblk, idx t]

/-- The four tables a point keeps for the next one. -/
def Tables (t : Fin cfg0.N) : Prop :=
  (outsAt0 m c t.val t.isLt).2.2.2.2.2.1 = t32 (aW m c)
  ∧ (outsAt0 m c t.val t.isLt).2.2.2.2.2.2.1 = tcb (aC m c)
  ∧ (outsAt0 m c t.val t.isLt).2.2.2.2.2.2.2.1 = tsq (aC m c)
  ∧ (outsAt0 m c t.val t.isLt).2.2.2.2.2.2.2.2 = tfc (aF m c)

/-- The first point fills the tables. -/
theorem tables_A (t : Fin cfg0.N) (h0 : t.val % 4 = 0) (h1 : ¬ t.val % 4 = 3) : Tables m c t := by
  unfold Tables
  rw [outsAt0_A m c t h0 h1, ← blk1 m c t, ← blk2 m c t, ← blk3 m c t]
  refine ⟨?_, ?_, ?_, ?_⟩ <;> frame_out
  all_goals rfl

/-- The point before. -/
abbrev prev (t : Fin cfg0.N) : Fin cfg0.N := ⟨t.val - 1, Nat.lt_of_le_of_lt (Nat.sub_le _ _) t.isLt⟩

/-- Every later point leaves the tables alone. -/
theorem tables_step (t : Fin cfg0.N) (h0 : ¬ t.val % 4 = 0) (h : Tables m c (prev t)) : Tables m c t := by
  unfold Tables at h ⊢
  by_cases h1 : t.val % 4 = 3
  · rw [outsAt0_C m c t h0 h1]
    exact h
  · rw [outsAt0_B m c t h0 h1]
    exact h

/-- At every point the tables are filled. -/
theorem tables : ∀ t : Fin cfg0.N, Tables m c t := by
  have h : ∀ n (hn : n < cfg0.N), Tables m c ⟨n, hn⟩ := by
    intro n
    induction n with
    | zero => intro hn; exact tables_A m c ⟨0, hn⟩ (by simp) (by simp)
    | succ n ih =>
      intro hn
      have hN : n + 1 < 4 := lt_of_lt_of_eq hn N_0
      exact tables_step m c ⟨n + 1, hn⟩ (by show ¬ (n + 1) % 4 = 0; omega) (ih (by omega))
  exact fun t => h t.val t.isLt

/-- Reshaping the square error to its own shape changes nothing. -/
theorem pay31 (y : FVec Ideal S1x1 .f32) : k0_pay31 y = y := by
  funext j
  pointwise [k0_pay31]

/-- What a point leaves in its block of the output. -/
theorem out_at (t : Fin cfg0.N) :
    (outsAt0 m c t.val t.isLt).1 = k0_pay2 (bzq (bX m c t) (aW m c) (aC m c)) (tfc (aF m c)) (aM m c) := by
  have hN : t.val < 4 := lt_of_lt_of_eq t.isLt N_0
  by_cases h0 : t.val % 4 = 0
  · rw [outsAt0_A m c t h0 (by omega), ← blk1 m c t, ← blk2 m c t, ← blk3 m c t, ← blk4 m c t]
    frame_out
    rfl
  · obtain ⟨a, b, d, e⟩ := tables m c (prev t)
    by_cases h1 : t.val % 4 = 3
    · rw [outsAt0_C m c t h0 h1, a, b, d, e, ← blk4 m c t]
      frame_out
      simp only [read_unread_whole]
    · rw [outsAt0_B m c t h0 h1, a, b, d, e, ← blk4 m c t]
      frame_out
      simp only [read_unread_whole]

/-- What the first point leaves in the counts. -/
theorem counts_A (t : Fin cfg0.N) (h0 : t.val % 4 = 0) :
    (outsAt0 m c t.val t.isLt).2.1 = bct (bX m c t) (aW m c) (aC m c) (k0_pay3 (F := Ideal)) := by
  rw [outsAt0_A m c t h0 (by omega), ← blk1 m c t, ← blk2 m c t]
  frame_out

/-- What a later point makes of the counts. -/
theorem counts_step (t : Fin cfg0.N) (h0 : ¬ t.val % 4 = 0) :
    (outsAt0 m c t.val t.isLt).2.1 = bct (bX m c t) (aW m c) (aC m c) (outsAt0 m c (prev t).val (prev t).isLt).2.1 := by
  obtain ⟨a, b, d, e⟩ := tables m c (prev t)
  by_cases h1 : t.val % 4 = 3
  · rw [outsAt0_C m c t h0 h1, a, b, d, e]
    frame_out
    all_goals try simp only [read_unread_whole, pay31]
  · rw [outsAt0_B m c t h0 h1, a, b, d, e]
    frame_out
    all_goals try simp only [read_unread_whole, pay31]

/-- What the first point leaves in the square error. -/
theorem err_A (t : Fin cfg0.N) (h0 : t.val % 4 = 0) :
    (outsAt0 m c t.val t.isLt).2.2.1 = k0_pay1 (bdl (bX m c t) (aW m c) (aC m c)) (k0_pay4 (F := Ideal)) := by
  rw [outsAt0_A m c t h0 (by omega), ← blk1 m c t, ← blk2 m c t]
  frame_out
  rfl

/-- What a later point makes of the square error. -/
theorem err_step (t : Fin cfg0.N) (h0 : ¬ t.val % 4 = 0) :
    (outsAt0 m c t.val t.isLt).2.2.1 = k0_pay1 (bdl (bX m c t) (aW m c) (aC m c)) (outsAt0 m c (prev t).val (prev t).isLt).2.2.1 := by
  obtain ⟨a, b, d, e⟩ := tables m c (prev t)
  by_cases h1 : t.val % 4 = 3
  · rw [outsAt0_C m c t h0 h1, a, b, d, e]
    frame_out
    all_goals try simp only [read_unread_whole, pay31]
  · rw [outsAt0_B m c t h0 h1, a, b, d, e]
    frame_out
    all_goals try simp only [read_unread_whole, pay31]

/-- The scaled square error the last point stores. -/
theorem cmt_at (t : Fin cfg0.N) (h1 : t.val % 4 = 3) :
    (outsAt0 m c t.val t.isLt).2.2.2.1 = k0_pay19 (outsAt0 m c t.val t.isLt).2.2.1 := by
  rw [outsAt0_C m c t (by omega) h1]
  frame_out

/-- The perplexity the last point stores. -/
theorem perp_at (t : Fin cfg0.N) (h1 : t.val % 4 = 3) :
    (outsAt0 m c t.val t.isLt).2.2.2.2.1 = k0_pay20 (outsAt0 m c t.val t.isLt).2.1 := by
  rw [outsAt0_C m c t (by omega) h1]
  frame_out

end Cert.KArrays
end
-- ==== Proof.KFinal.lean ====
module

public import proofs.«01_k».proof.Proof.KArrays

@[expose] public section

/-! # The arrays the kernel leaves, in the terms of `Cert.Spec` -/

set_option maxRecDepth 16384

noncomputable section

namespace Cert.KArrays

open Idealize.ShloMosaic Idealize.ShloMosaic.TcCoe Cert.KernelIdeal Cert.KernelIdeal.Gen Cert.KPoint Cert.KBlocks

variable (m : (ℓ : Loc nD τ sig) → Buf (Elt Ideal) ℓ) (c : Dev nD)

/-! ## The rows of the input and the arrays at the end -/

/-- Row `b` of the block of point `t`, as a row of the whole input. -/
abbrev big (t : Fin 4) (b : Fin 4096) : Fin 16384 := ⟨t.val * 4096 + b.val, by omega⟩

/-- The input's rows. -/
abbrev row (B : Fin 16384) (l : Fin 32) : EReal := m ((c : Thread nD τ).loc main_arg0) (ix2 B l)

/-- A point's block of rows is its stretch of the input. -/
theorem bX_row (t : Fin cfg0.N) (u : Fin 4) (h : t.val = u.val) (b : Fin 4096) : fP (bX m c t) b = row m c (big u b) := by
  funext l
  show iblk m c 0 t (ix2 b l) = _
  blk_ext [iblk, V, idx t]

/-- The filter the kernel finds, in the argument. -/
theorem aW_arg : fW (aW m c) = fun d j => m ((c : Thread nD τ).loc main_arg2) (ix3 d 0 j) := by
  funext d j
  show V m c main_v0 (ix2 d j) = _
  entry_read
  pointwise

/-- The codebook the kernel finds, in the argument. -/
theorem aC_arg : fC (aC m c) = fun k d => m ((c : Thread nD τ).loc main_arg4) (ix2 k d) := by
  funext k d
  show V m c main_arg4 (ix2 k d) = _
  rw [V_main_arg4]

/-- The output array, in the terms of the specification. -/
theorem out_final (w : Fin 10 → Fin 4 → EReal) (cb : Fin 128 → Fin 10 → EReal)
    (hw : fW (aW m c) = w) (hc : fC (aC m c) = cb) :
    (dats m 0 c).arrAt 5 cfg0.N = fun i : S16384x128.Idx =>
      Spec.out w cb (fun e l => m ((c : Thread nD τ).loc main_arg5) (ix2 e l))
        (fun o e => m ((c : Thread nD τ).loc main_arg7) (ix2 o e)) (row m c (i 0)) (i 1) := by
  refine (dats m 0 c).arrAt_eq_of_covers 5 _ (by decide +kernel) fun t hf y => ?_
  blk_simp
  rw [after0_5, out_at]
  subst hw hc
  have ht : t.val < 4 := lt_of_lt_of_eq t.isLt N_0
  have hf : (fun e l => aF m c (ix2 e l)) = fun (e : Fin 256) (l : Fin 80) => m ((c : Thread nD τ).loc main_arg5) (ix2 e l) := by
    funext e l
    show V m c main_arg5 (ix2 e l) = _
    rw [V_main_arg5]
  have hm : (fun o e => aM m c (ix2 o e)) = fun (o : Fin 128) (e : Fin 256) => m ((c : Thread nD τ).loc main_arg7) (ix2 o e) := by
    funext o e
    show V m c main_arg7 (ix2 o e) = _
    rw [V_main_arg7]
  rw [← hf, ← hm]
  have key : ∀ (b : Fin 4096) (o : Fin 128), k0_pay2 (bzq (bX m c t) (aW m c) (aC m c)) (tfc (aF m c)) (aM m c) (ix2 b o)
      = Spec.out (fW (aW m c)) (fC (aC m c)) (fun e l => aF m c (ix2 e l)) (fun o e => aM m c (ix2 o e))
        (row m c ((win0_5.blk t).view.emb (ix2 b o) 0)) ((win0_5.blk t).view.emb (ix2 b o) 1) := by
    intro b o
    rw [out_apply]
    have hr : fP (bX m c t) b = row m c ((win0_5.blk t).view.emb (ix2 b o) 0) := by
      rw [bX_row m c t ⟨t.val, ht⟩ rfl]
      refine congrArg (row m c) (Fin.ext ?_)
      blk_simp [idx5 t]
    have ho : o = (win0_5.blk t).view.emb (ix2 b o) 1 := by
      refine Fin.ext ?_
      blk_simp [idx5 t]
    rw [← hr, ← ho]
  idx_vars y
  exact key _ _

/-- The counts after the last point. -/
theorem counts_last (u : Fin 8) (k : Fin 128) :
    (outsAt0 m c t0_3.val t0_3.isLt).2.1 (ix2 (code u k) 0)
      = ∑ B : Fin 16384, Spec.oh (fW (aW m c)) (fC (aC m c)) (row m c B) u k := by
  have z : k0_pay3 (F := Ideal) (ix2 (code u k) 0) = 0 := by pointwise [k0_pay3]
  rw [counts_step m c t0_3 (by decide), counts_apply]
  show (outsAt0 m c t0_2.val t0_2.isLt).2.1 (ix2 (code u k) 0) + _ = _
  rw [counts_step m c t0_2 (by decide), counts_apply]
  show (outsAt0 m c t0_1.val t0_1.isLt).2.1 (ix2 (code u k) 0) + _ + _ = _
  rw [counts_step m c t0_1 (by decide), counts_apply]
  show (outsAt0 m c t0_0.val t0_0.isLt).2.1 (ix2 (code u k) 0) + _ + _ + _ = _
  rw [counts_A m c t0_0 (by decide), counts_apply, z, zero_add, Fin.sum_univ_tiles 4 4096 rfl]
  simp only [bX_row m c t0_0 0 rfl, bX_row m c t0_1 1 rfl, bX_row m c t0_2 2 rfl, bX_row m c t0_3 3 rfl]
  exact (Fin.sum_univ_four (M := EReal) fun j => ∑ b, Spec.oh (fW (aW m c)) (fC (aC m c)) (row m c (big j b)) u k).symm

/-- The square error after the last point. -/
theorem err_last :
    (outsAt0 m c t0_3.val t0_3.isLt).2.2.1 (ix2 0 0)
      = ∑ B : Fin 16384, Spec.err (fW (aW m c)) (fC (aC m c)) (row m c B) := by
  have z : k0_pay4 (F := Ideal) (ix2 0 0) = 0 := by pointwise [k0_pay4]
  rw [err_step m c t0_3 (by decide), err_apply]
  show (outsAt0 m c t0_2.val t0_2.isLt).2.2.1 (ix2 0 0) + _ = _
  rw [err_step m c t0_2 (by decide), err_apply]
  show (outsAt0 m c t0_1.val t0_1.isLt).2.2.1 (ix2 0 0) + _ + _ = _
  rw [err_step m c t0_1 (by decide), err_apply]
  show (outsAt0 m c t0_0.val t0_0.isLt).2.2.1 (ix2 0 0) + _ + _ + _ = _
  rw [err_A m c t0_0 (by decide), err_apply, z, zero_add, Fin.sum_univ_tiles 4 4096 rfl]
  simp only [bX_row m c t0_0 0 rfl, bX_row m c t0_1 1 rfl, bX_row m c t0_2 2 rfl, bX_row m c t0_3 3 rfl]
  exact (Fin.sum_univ_four (M := EReal) fun j => ∑ b, Spec.err (fW (aW m c)) (fC (aC m c)) (row m c (big j b))).symm

/-- The third result's array: the scaled square error of the last point. -/
theorem cmt_final (i : S1x1.Idx) :
    (dats m 0 c).arrAt 8 cfg0.N i = k0_pay19 (outsAt0 m c t0_3.val t0_3.isLt).2.2.1 i := by
  revert i
  refine congrFun ((dats m 0 c).arrAt_eq_of_after_last 8 t0_3 (by decide +kernel) _ fun j => ?_)
  blk_simp
  rw [after0_8, cmt_at m c t0_3 (by decide)]

/-- The fourth result's array: the perplexity of the last point. -/
theorem perp_final (i : S1x1.Idx) :
    (dats m 0 c).arrAt 9 cfg0.N i = k0_pay20 (outsAt0 m c t0_3.val t0_3.isLt).2.1 i := by
  revert i
  refine congrFun ((dats m 0 c).arrAt_eq_of_after_last 9 t0_3 (by decide +kernel) _ fun j => ?_)
  blk_simp
  rw [after0_9, perp_at m c t0_3 (by decide)]

end Cert.KArrays
end
-- ==== Proof.KEnd.lean ====
module

public import proofs.«01_k».proof.Proof.KFinal
public import proofs.«01_k».proof.Proof.Consts

@[expose] public section

/-! # The kernel's two single numbers -/

set_option maxRecDepth 16384

noncomputable section

namespace Cert.KArrays

open Idealize.ShloMosaic Idealize.ShloMosaic.TcCoe Cert.KernelIdeal Cert.KernelIdeal.Gen Cert.KPoint Cert.KBlocks

/-- The pattern of ten. -/
theorem ten : Ideal.ofBits .f32 0x41200000#32 = ((10 : ℝ) : EReal) := by
  simp [Ideal.ofBits, Ideal.ieee, -EReal.coe_mul]; norm_num

/-- The pattern of the small number added to a denominator. -/
theorem tiny : Ideal.ofBits .f32 0x3089705F#32 = ((9007199 / 2 ^ 53 : ℝ) : EReal) := by
  simp [Ideal.ofBits, Ideal.ieee, -EReal.coe_mul]; norm_num

/-- The loss's denominator is not zero. -/
theorem den_ne : Ideal.ofBits .f32 0x48000000#32 * Ideal.ofBits .f32 0x41200000#32 + Ideal.ofBits .f32 0x3089705F#32 ≠ 0 := by
  rw [Consts.tokens, ten, tiny, ← EReal.coe_mul, ← EReal.coe_add, ← EReal.coe_zero, ne_eq, EReal.coe_eq_coe_iff]
  norm_num

/-- Off a zero denominator a factor may be taken out of a quotient. -/
theorem div_factor (x y d : EReal) (h : d ≠ 0) : Ideal.div (x * y) d = x * Ideal.div y d := by
  unfold Ideal.div
  rw [if_neg h, if_neg h, mul_assoc]

/-- The commitment loss from the square error. -/
theorem pay19_at (e : FVec Ideal S1x1 .f32) : k0_pay19 (F := Ideal) e (ix2 0 0)
    = Ideal.ofBits .f32 0x3E800000#32 * Ideal.div (e (ix2 0 0))
      (Ideal.ofBits .f32 0x48000000#32 * Ideal.ofBits .f32 0x41200000#32 + Ideal.ofBits .f32 0x3089705F#32) := by
  pointwise [k0_pay19]
  exact div_factor _ _ _ den_ne

/-- Eight slabs of counts, added in turn. -/
theorem slabs (x : FVec Ideal S1024x1 .f32) (k : Fin 128) :
    (x (ix2 ⟨k.val, by omega⟩ 0) + x (ix2 ⟨128 + k.val, by omega⟩ 0) + x (ix2 ⟨256 + k.val, by omega⟩ 0)
      + x (ix2 ⟨384 + k.val, by omega⟩ 0) + x (ix2 ⟨512 + k.val, by omega⟩ 0) + x (ix2 ⟨640 + k.val, by omega⟩ 0)
      + x (ix2 ⟨768 + k.val, by omega⟩ 0) + x (ix2 ⟨896 + k.val, by omega⟩ 0) : EReal) = ∑ u : Fin 8, x (ix2 (code u k) 0) := by
  have h : (⟨k.val, by omega⟩ : Fin 1024) = code 0 k := Fin.ext (by show k.val = 0 * 128 + k.val; omega)
  rw [Fin.sum_univ_eight (M := EReal) (fun u => x (ix2 (code u k) 0)), h]
  rfl

/-- The perplexity from the counts. -/
theorem pay20_at (x : FVec Ideal S1024x1 .f32) : k0_pay20 (F := Ideal) x (ix2 0 0)
    = Ideal.exp (-∑ k : Fin 128,
        Ideal.div (∑ u : Fin 8, x (ix2 (code u k) 0)) (Ideal.ofBits .f32 0x48000000#32 + Ideal.ofBits .f32 0x3089705F#32)
        * Ideal.log (Ideal.div (∑ u : Fin 8, x (ix2 (code u k) 0)) (Ideal.ofBits .f32 0x48000000#32 + Ideal.ofBits .f32 0x3089705F#32)
            + Ideal.ofBits .f32 0x2EDBE6FF#32)) := by
  pointwise [k0_pay20]
  simp only [slabs, zero_sub, Fin.sum_univ_one]
  rfl

variable (m : (ℓ : Loc nD τ sig) → Buf (Elt Ideal) ℓ) (c : Dev nD)

/-- The second result claimed: the commitment loss. -/
theorem cmt_value : (dats m 0 c).arrAt 8 cfg0.N (ix2 0 0)
    = Ideal.ofBits .f32 0x3E800000#32 * Ideal.div (∑ B : Fin 16384, Spec.err (fW (aW m c)) (fC (aC m c)) (row m c B))
      (Ideal.ofBits .f32 0x48000000#32 * Ideal.ofBits .f32 0x41200000#32 + Ideal.ofBits .f32 0x3089705F#32) := by
  rw [cmt_final m c (ix2 0 0), pay19_at, err_last]

/-- The third result claimed: the perplexity. -/
theorem perp_value : (dats m 0 c).arrAt 9 cfg0.N (ix2 0 0)
    = Ideal.exp (-∑ k : Fin 128,
        Ideal.div (∑ B : Fin 16384, ∑ t : Fin 8, Spec.oh (fW (aW m c)) (fC (aC m c)) (row m c B) t k)
            (Ideal.ofBits .f32 0x48000000#32 + Ideal.ofBits .f32 0x3089705F#32)
          * Ideal.log (Ideal.div (∑ B : Fin 16384, ∑ t : Fin 8, Spec.oh (fW (aW m c)) (fC (aC m c)) (row m c B) t k)
            (Ideal.ofBits .f32 0x48000000#32 + Ideal.ofBits .f32 0x3089705F#32) + Ideal.ofBits .f32 0x2EDBE6FF#32)) := by
  have h : ∀ k : Fin 128, (∑ u : Fin 8, (outsAt0 m c t0_3.val t0_3.isLt).2.1 (ix2 (code u k) 0) : EReal)
      = ∑ B : Fin 16384, ∑ t : Fin 8, Spec.oh (fW (aW m c)) (fC (aC m c)) (row m c B) t k := by
    intro k
    rw [Finset.sum_comm]
    exact Finset.sum_congr rfl fun u _ => counts_last m c u k
  rw [perp_final m c (ix2 0 0), pay20_at]
  simp only [h]

end Cert.KArrays

end
-- ==== Proof.RefVals.lean ====
module

public import proofs.«01_k».proof.Proof.RefRun
public import proofs.«01_k».proof.Proof.Spec
public import proofs.«01_k».proof.Proof.Consts
public import Idealize.ShloMosaic.Lib.Pointwise

@[expose] public section

/-! # The reference's quantities as functions of the ones before, and where its run leaves them -/

set_option maxRecDepth 16384

noncomputable section

namespace Cert.RefVals

open Cert.ReferenceIdeal Cert.ReferenceIdeal.Facts₀ Cert.ReferenceIdeal.Facts Idealize.ShloMosaic Idealize.ShloMosaic.StableHlo Cert.RefRun

variable (V : Valuation τ sig (Elt Ideal))

/-- The encoded vectors. -/
def q7 (arg0 : FVec Ideal S16384x32 .f32) (arg2 : FVec Ideal S10x1x4 .f32) (arg3 : FVec Ideal S10 .f32) : FVec Ideal S16384x8x10 .f32 :=
  ((maximumf) ((addf) (((fun l r => Host.dotGeneral dot_S16384x8x4_S10x4_S16384x8x10_2_1_01_0_n_n none l r)) ((fun x => shapeCast S16384x8x4 x shapeCasts_S16384x32_S16384x8x4) arg0) ((fun x => shapeCast S10x4 x shapeCasts_S10x1x4_S10x4) arg2)) ((broadcastInDim S16384x8x10 ![0, 1, 2] bcast_S1x1x10_S16384x8x10_0_1_2) ((broadcastInDim S1x1x10 ![2] bcast_S10_S1x1x10_2) arg3))) ((broadcastInDim S16384x8x10 ![] bcast_S_S16384x8x10) ((constant S_ .f32 0x00000000#32))))

/-- The encoded vectors: where the line leaves them. -/
theorem read_q7 : after (ops_a (F := Ideal)) V (Proc.devRef .tc main_v7) = q7 (V (Proc.devRef .tc main_arg0)) (V (Proc.devRef .tc main_arg2)) (V (Proc.devRef .tc main_arg3)) := by
  unfold ops_a
  after_reads_simp
  rfl

/-- The distances. -/
def q22 (v7 : FVec Ideal S16384x8x10 .f32) (arg4 : FVec Ideal S128x10 .f32) : FVec Ideal S131072x128 .f32 :=
  ((addf) ((subf) ((broadcastInDim S131072x128 ![0, 1] bcast_S131072x1_S131072x128_0_1) ((broadcastInDim S131072x1 ![0] bcast_S131072_S131072x1_0) (((fun x v => Host.reduceAdd x v reducesTo_S131072x10_S131072_d1 h_S_)) ((mulf) ((fun x => shapeCast S131072x10 x shapeCasts_S16384x8x10_S131072x10) v7) ((fun x => shapeCast S131072x10 x shapeCasts_S16384x8x10_S131072x10) v7)) ((constant S_ .f32 0x00000000#32))))) (((fun l r => Host.dotGeneral dot_S131072x10_S10x128_S131072x128_1_0_0_1_n_n none l r)) ((mulf) ((broadcastInDim S131072x10 ![] bcast_S_S131072x10) ((constant S_ .f32 0x40000000#32))) ((fun x => shapeCast S131072x10 x shapeCasts_S16384x8x10_S131072x10) v7)) (((transpose S10x128 [1, 0] · transposes_S128x10_S10x128_1_0)) arg4))) ((broadcastInDim S131072x128 ![0, 1] bcast_S1x128_S131072x128_0_1) ((broadcastInDim S1x128 ![1] bcast_S128_S1x128_1) (((fun x v => Host.reduceAdd x v reducesTo_S128x10_S128_d1 h_S_)) ((mulf) arg4 arg4) ((constant S_ .f32 0x00000000#32))))))

/-- The distances: where the line leaves them. -/
theorem read_q22 : after (ops_b (F := Ideal)) V (Proc.devRef .tc main_v22) = q22 (V (Proc.devRef .tc main_v7)) (V (Proc.devRef .tc main_arg4)) := by
  unfold ops_b
  after_reads_simp
  rfl

/-- The nearest codes' numbers. -/
def q23 (v22 : FVec Ideal S131072x128 .f32) : IVec S131072 32 :=
  ((fun x y u v j => (Host.argReduce reducer_argmin_f32_i32 x y u v reducesTo_S131072x128_S131072_d1 h_S_ j).2) v22 (iotaInDim S131072x128 32 1) (constant S_ .f32 0x7F800000#32) (constantI S_ 32 0#32))

/-- The nearest codes' numbers: where the line leaves them. -/
theorem read_q23 : after (ops_c (F := Ideal)) V (Proc.devRef .tc main_v23) = q23 (V (Proc.devRef .tc main_v22)) := by
  unfold ops_c
  after_reads_simp
  rfl

/-- The nearest codes. -/
def q24 (v23 : IVec S131072 32) (arg4 : FVec Ideal S128x10 .f32) : FVec Ideal S131072x10 .f32 :=
  (select ((broadcastInDim S131072x10 ![0] bcast_S131072_S131072x10_0) ((fun x v => Host.reduce IntOp.andi x v reducesTo_S131072x1_S131072_d1 h_S_) (andi ((cmpi .sge) ((broadcastInDim S131072x1 ![0] bcast_S131072_S131072x1_0) (select ((cmpi .slt) v23 ((broadcastInDim S131072 ![] bcast_S_S131072) (constantI S_ 32 0#32))) (addi v23 ((broadcastInDim S131072 ![] bcast_S_S131072) (constantI S_ 32 128#32))) v23)) ((broadcastInDim S131072x1 ![] bcast_S_S131072x1) (constantI S_ 32 0#32))) ((cmpi .sle) ((broadcastInDim S131072x1 ![0] bcast_S131072_S131072x1_0) (select ((cmpi .slt) v23 ((broadcastInDim S131072 ![] bcast_S_S131072) (constantI S_ 32 0#32))) (addi v23 ((broadcastInDim S131072 ![] bcast_S_S131072) (constantI S_ 32 128#32))) v23)) ((broadcastInDim S131072x1 ![0, 1] bcast_S1x1_S131072x1_0_1) ((broadcastInDim S1x1 ![1] bcast_S1_S1x1_1) (constantI S1 32 127#32))))) (constantI S_ 1 1#1))) ((fun x i => Host.gather gather_S128x10_S131072x1_S131072x10_1_0_n_n_0_1_110 x i) arg4 ((broadcastInDim S131072x1 ![0] bcast_S131072_S131072x1_0) (select ((cmpi .slt) v23 ((broadcastInDim S131072 ![] bcast_S_S131072) (constantI S_ 32 0#32))) (addi v23 ((broadcastInDim S131072 ![] bcast_S_S131072) (constantI S_ 32 128#32))) v23))) ((broadcastInDim S131072x10 ![] bcast_S_S131072x10) (constant S_ .f32 0x7FC00000#32)))

set_option maxRecDepth 200000 in
/-- The nearest codes: where the line leaves them. -/
theorem read_q24 : after (ops_d (F := Ideal)) V (Proc.devRef .tc main_v24) = q24 (V (Proc.devRef .tc main_v23)) (V (Proc.devRef .tc main_arg4)) := by
  unfold ops_d
  after_reads_simp
  rfl

/-- The nearest codes, row by row. -/
def q25 (v24 : FVec Ideal S131072x10 .f32) : FVec Ideal S16384x8x10 .f32 :=
  ((fun x => shapeCast S16384x8x10 x shapeCasts_S131072x10_S16384x8x10) v24)

/-- The nearest codes, row by row: where the line leaves them. -/
theorem read_q25 : after (ops_e (F := Ideal)) V (Proc.devRef .tc main_v25) = q25 (V (Proc.devRef .tc main_v24)) := by
  unfold ops_e
  after_reads_simp
  rfl

/-- The weights of the mask. -/
def q30 (arg1 : IVec S16384x1 1) : FVec Ideal S16384x8x1 .f32 :=
  ((uitofp .f32) ((noti) ((fun x => shapeCast S16384x8x1 x shapeCasts_S16384x1x8x1_S16384x8x1) ((broadcastInDim S16384x1x8x1 ![0, 1, 3] bcast_S16384x1x1_S16384x1x8x1_0_1_3) ((broadcastInDim S16384x1x1 ![0, 2] bcast_S16384x1_S16384x1x1_0_2) arg1)))))

/-- The weights of the mask: where the line leaves them. -/
theorem read_q30 : after (ops_e (F := Ideal)) V (Proc.devRef .tc main_v30) = q30 (V (Proc.devRef .tc main_arg1)) := by
  unfold ops_e
  after_reads_simp
  rfl

/-- The scaled square error. -/
def q40 (v25 : FVec Ideal S16384x8x10 .f32) (v7 : FVec Ideal S16384x8x10 .f32) (v30 : FVec Ideal S16384x8x1 .f32) : FVec Ideal S_ .f32 :=
  ((mulf) ((constant S_ .f32 0x3E800000#32)) ((Host.divf) (((fun x v => Host.reduceAdd x v reducesTo_S16384x8x10_S_d0_1_2 h_S_)) ((mulf) ((mulf) ((subf) v25 v7) ((subf) v25 v7)) ((broadcastInDim S16384x8x10 ![0, 1, 2] bcast_S16384x8x1_S16384x8x10_0_1_2) v30)) ((constant S_ .f32 0x00000000#32))) ((addf) ((mulf) (((fun x v => Host.reduceAdd x v reducesTo_S16384x8x1_S_d0_1_2 h_S_)) v30 ((constant S_ .f32 0x00000000#32))) ((constant S_ .f32 0x41200000#32))) ((constant S_ .f32 0x3089705F#32)))))

/-- The scaled square error: where the line leaves them. -/
theorem read_q40 : after (ops_f (F := Ideal)) V (Proc.devRef .tc main_v40) = q40 (V (Proc.devRef .tc main_v25)) (V (Proc.devRef .tc main_v7)) (V (Proc.devRef .tc main_v30)) := by
  unfold ops_f
  after_reads_simp
  rfl

/-- The straight-through vectors. -/
def q42 (v7 : FVec Ideal S16384x8x10 .f32) (v25 : FVec Ideal S16384x8x10 .f32) : FVec Ideal S16384x8x10 .f32 :=
  ((addf) v7 ((subf) v25 v7))

/-- The straight-through vectors: where the line leaves them. -/
theorem read_q42 : after (ops_g (F := Ideal)) V (Proc.devRef .tc main_v42) = q42 (V (Proc.devRef .tc main_v7)) (V (Proc.devRef .tc main_v25)) := by
  unfold ops_g
  after_reads_simp
  rfl

/-- The one-hot rows. -/
def q43 (v23 : IVec S131072 32) : FVec Ideal S131072x128 .f32 :=
  ((uitofp .f32) ((cmpi .eq) ((broadcastInDim S131072x128 ![0, 1] bcast_S131072x1_S131072x128_0_1) ((broadcastInDim S131072x1 ![0] bcast_S131072_S131072x1_0) v23)) ((broadcastInDim S131072x128 ![0, 1] bcast_S1x128_S131072x128_0_1) (iotaInDim S1x128 32 1))))

/-- The one-hot rows: where the line leaves them. -/
theorem read_q43 : after (ops_h (F := Ideal)) V (Proc.devRef .tc main_v43) = q43 (V (Proc.devRef .tc main_v23)) := by
  unfold ops_h
  after_reads_simp
  rfl

/-- The weighted counts. -/
def q48 (v43 : FVec Ideal S131072x128 .f32) (v30 : FVec Ideal S16384x8x1 .f32) : FVec Ideal S128 .f32 :=
  (((fun x v => Host.reduceAdd x v reducesTo_S131072x128_S128_d0 h_S_)) ((mulf) v43 ((broadcastInDim S131072x128 ![0, 1] bcast_S131072x1_S131072x128_0_1) ((broadcastInDim S131072x1 ![0] bcast_S131072_S131072x1_0) ((fun x => shapeCast S131072 x shapeCasts_S16384x8x1_S131072) v30)))) ((constant S_ .f32 0x00000000#32)))

/-- The weighted counts: where the line leaves them. -/
theorem read_q48 : after (ops_i (F := Ideal)) V (Proc.devRef .tc main_v48) = q48 (V (Proc.devRef .tc main_v43)) (V (Proc.devRef .tc main_v30)) := by
  unfold ops_i
  after_reads_simp
  rfl

/-- The weights in one line. -/
def q44 (v30 : FVec Ideal S16384x8x1 .f32) : FVec Ideal S131072 .f32 :=
  ((fun x => shapeCast S131072 x shapeCasts_S16384x8x1_S131072) v30)

/-- The weights in one line: where the line leaves them. -/
theorem read_q44 : after (ops_i (F := Ideal)) V (Proc.devRef .tc main_v44) = q44 (V (Proc.devRef .tc main_v30)) := by
  unfold ops_i
  after_reads_simp
  rfl

/-- The perplexity. -/
def q59 (v48 : FVec Ideal S128 .f32) (v44 : FVec Ideal S131072 .f32) : FVec Ideal S_ .f32 :=
  ((Host.exp) ((Host.negf) (((fun x v => Host.reduceAdd x v reducesTo_S128_S_d0 h_S_)) ((mulf) ((Host.divf) v48 ((broadcastInDim S128 ![] bcast_S_S128) ((addf) (((fun x v => Host.reduceAdd x v reducesTo_S131072_S_d0 h_S_)) v44 ((constant S_ .f32 0x00000000#32))) ((constant S_ .f32 0x3089705F#32))))) ((Host.log) ((addf) ((Host.divf) v48 ((broadcastInDim S128 ![] bcast_S_S128) ((addf) (((fun x v => Host.reduceAdd x v reducesTo_S131072_S_d0 h_S_)) v44 ((constant S_ .f32 0x00000000#32))) ((constant S_ .f32 0x3089705F#32))))) ((broadcastInDim S128 ![] bcast_S_S128) ((constant S_ .f32 0x2EDBE6FF#32)))))) ((constant S_ .f32 0x00000000#32)))))

/-- The perplexity: where the line leaves them. -/
theorem read_q59 : after (ops_j (F := Ideal)) V (Proc.devRef .tc main_v59) = q59 (V (Proc.devRef .tc main_v48)) (V (Proc.devRef .tc main_v44)) := by
  unfold ops_j
  after_reads_simp
  rfl

/-- The first dense layer before its bias. -/
def q63 (v42 : FVec Ideal S16384x8x10 .f32) (arg5 : FVec Ideal S256x80 .f32) : FVec Ideal S16384x256 .f32 :=
  (((fun l r => Host.dotGeneral dot_S16384x80_S80x256_S16384x256_1_0_0_1_n_n none l r)) ((fun x => shapeCast S16384x80 x shapeCasts_S16384x10x8_S16384x80) (((transpose S16384x10x8 [0, 2, 1] · transposes_S16384x8x10_S16384x10x8_0_2_1)) v42)) (((transpose S80x256 [1, 0] · transposes_S256x80_S80x256_1_0)) arg5))

/-- The first dense layer before its bias: where the line leaves them. -/
theorem read_q63 : after (ops_k (F := Ideal)) V (Proc.devRef .tc main_v63) = q63 (V (Proc.devRef .tc main_v42)) (V (Proc.devRef .tc main_arg5)) := by
  unfold ops_k
  after_reads_simp
  rfl

/-- The output. -/
def q71 (v63 : FVec Ideal S16384x256 .f32) (arg6 : FVec Ideal S256 .f32) (arg7 : FVec Ideal S128x256 .f32) (arg8 : FVec Ideal S128 .f32) : FVec Ideal S16384x128 .f32 :=
  ((addf) (((fun l r => Host.dotGeneral dot_S16384x256_S256x128_S16384x128_1_0_0_1_n_n none l r)) ((addf) v63 ((broadcastInDim S16384x256 ![0, 1] bcast_S1x256_S16384x256_0_1) ((broadcastInDim S1x256 ![1] bcast_S256_S1x256_1) arg6))) (((transpose S256x128 [1, 0] · transposes_S128x256_S256x128_1_0)) arg7)) ((broadcastInDim S16384x128 ![0, 1] bcast_S1x128_S16384x128_0_1) ((broadcastInDim S1x128 ![1] bcast_S128_S1x128_1) arg8)))

/-- The output: where the line leaves them. -/
theorem read_q71 : after (ops_l (F := Ideal)) V (Proc.devRef .tc main_v71) = q71 (V (Proc.devRef .tc main_v63)) (V (Proc.devRef .tc main_arg6)) (V (Proc.devRef .tc main_arg7)) (V (Proc.devRef .tc main_arg8)) := by
  unfold ops_l
  after_reads_simp
  rfl

/-- The scaled square error as a matrix. -/
def q72 (v40 : FVec Ideal S_ .f32) : FVec Ideal S1x1 .f32 :=
  ((fun x => shapeCast S1x1 x shapeCasts_S_S1x1) v40)

/-- The scaled square error as a matrix: where the line leaves them. -/
theorem read_q72 : after (ops_m (F := Ideal)) V (Proc.devRef .tc main_v72) = q72 (V (Proc.devRef .tc main_v40)) := by
  unfold ops_m
  after_reads_simp
  rfl

/-- The perplexity as a matrix. -/
def q73 (v59 : FVec Ideal S_ .f32) : FVec Ideal S1x1 .f32 :=
  ((fun x => shapeCast S1x1 x shapeCasts_S_S1x1) v59)

/-- The perplexity as a matrix: where the line leaves them. -/
theorem read_q73 : after (ops_m (F := Ideal)) V (Proc.devRef .tc main_v73) = q73 (V (Proc.devRef .tc main_v59)) := by
  unfold ops_m
  after_reads_simp
  rfl

end Cert.RefVals

end
-- ==== Proof.RefEnd.lean ====
module

public import proofs.«01_k».proof.Proof.RefVals

@[expose] public section

/-! # The reference's three results as functions of its arguments -/

set_option maxRecDepth 16384

noncomputable section

namespace Cert.RefVals

open Cert.ReferenceIdeal Idealize.ShloMosaic Idealize.ShloMosaic.StableHlo Cert.RefRun

/-- Two stretches one after the other. -/
theorem after_join (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- What stretch a never writes it keeps. -/
theorem keep_a (V : Valuation τ sig (Elt Ideal)) {r : Ref sig .tc} (hr : r ∉ out_a) : after (ops_a (F := Ideal)) V (Proc.devRef .tc r) = V (Proc.devRef .tc r) :=
  after_of_writes_sub ops_a V writes_a hr

/-- What stretch b never writes it keeps. -/
theorem keep_b (V : Valuation τ sig (Elt Ideal)) {r : Ref sig .tc} (hr : r ∉ out_b) : after (ops_b (F := Ideal)) V (Proc.devRef .tc r) = V (Proc.devRef .tc r) :=
  after_of_writes_sub ops_b V writes_b hr

/-- What stretch c never writes it keeps. -/
theorem keep_c (V : Valuation τ sig (Elt Ideal)) {r : Ref sig .tc} (hr : r ∉ out_c) : after (ops_c (F := Ideal)) V (Proc.devRef .tc r) = V (Proc.devRef .tc r) :=
  after_of_writes_sub ops_c V writes_c hr

/-- What stretch d never writes it keeps. -/
theorem keep_d (V : Valuation τ sig (Elt Ideal)) {r : Ref sig .tc} (hr : r ∉ out_d) : after (ops_d (F := Ideal)) V (Proc.devRef .tc r) = V (Proc.devRef .tc r) :=
  after_of_writes_sub ops_d V writes_d hr

/-- What stretch e never writes it keeps. -/
theorem keep_e (V : Valuation τ sig (Elt Ideal)) {r : Ref sig .tc} (hr : r ∉ out_e) : after (ops_e (F := Ideal)) V (Proc.devRef .tc r) = V (Proc.devRef .tc r) :=
  after_of_writes_sub ops_e V writes_e hr

/-- What stretch f never writes it keeps. -/
theorem keep_f (V : Valuation τ sig (Elt Ideal)) {r : Ref sig .tc} (hr : r ∉ out_f) : after (ops_f (F := Ideal)) V (Proc.devRef .tc r) = V (Proc.devRef .tc r) :=
  after_of_writes_sub ops_f V writes_f hr

/-- What stretch g never writes it keeps. -/
theorem keep_g (V : Valuation τ sig (Elt Ideal)) {r : Ref sig .tc} (hr : r ∉ out_g) : after (ops_g (F := Ideal)) V (Proc.devRef .tc r) = V (Proc.devRef .tc r) :=
  after_of_writes_sub ops_g V writes_g hr

/-- What stretch h never writes it keeps. -/
theorem keep_h (V : Valuation τ sig (Elt Ideal)) {r : Ref sig .tc} (hr : r ∉ out_h) : after (ops_h (F := Ideal)) V (Proc.devRef .tc r) = V (Proc.devRef .tc r) :=
  after_of_writes_sub ops_h V writes_h hr

/-- What stretch i never writes it keeps. -/
theorem keep_i (V : Valuation τ sig (Elt Ideal)) {r : Ref sig .tc} (hr : r ∉ out_i) : after (ops_i (F := Ideal)) V (Proc.devRef .tc r) = V (Proc.devRef .tc r) :=
  after_of_writes_sub ops_i V writes_i hr

/-- What stretch j never writes it keeps. -/
theorem keep_j (V : Valuation τ sig (Elt Ideal)) {r : Ref sig .tc} (hr : r ∉ out_j) : after (ops_j (F := Ideal)) V (Proc.devRef .tc r) = V (Proc.devRef .tc r) :=
  after_of_writes_sub ops_j V writes_j hr

/-- What stretch k never writes it keeps. -/
theorem keep_k (V : Valuation τ sig (Elt Ideal)) {r : Ref sig .tc} (hr : r ∉ out_k) : after (ops_k (F := Ideal)) V (Proc.devRef .tc r) = V (Proc.devRef .tc r) :=
  after_of_writes_sub ops_k V writes_k hr

/-- What stretch l never writes it keeps. -/
theorem keep_l (V : Valuation τ sig (Elt Ideal)) {r : Ref sig .tc} (hr : r ∉ out_l) : after (ops_l (F := Ideal)) V (Proc.devRef .tc r) = V (Proc.devRef .tc r) :=
  after_of_writes_sub ops_l V writes_l hr

/-- What stretch m never writes it keeps. -/
theorem keep_m (V : Valuation τ sig (Elt Ideal)) {r : Ref sig .tc} (hr : r ∉ out_m) : after (ops_m (F := Ideal)) V (Proc.devRef .tc r) = V (Proc.devRef .tc r) :=
  after_of_writes_sub ops_m V writes_m hr

/-- The encoded vectors, from the arguments. -/
def eZ (V : Valuation τ sig (Elt Ideal)) : FVec Ideal S16384x8x10 .f32 :=
  q7 (V (Proc.devRef .tc main_arg0)) (V (Proc.devRef .tc main_arg2)) (V (Proc.devRef .tc main_arg3))
/-- The codebook argument. -/
def eC (V : Valuation τ sig (Elt Ideal)) : FVec Ideal S128x10 .f32 := V (Proc.devRef .tc main_arg4)
/-- The nearest codes' numbers, from the arguments. -/
def eI (V : Valuation τ sig (Elt Ideal)) : IVec S131072 32 := q23 (q22 (eZ V) (eC V))
/-- The nearest codes row by row, from the arguments. -/
def eQ (V : Valuation τ sig (Elt Ideal)) : FVec Ideal S16384x8x10 .f32 := q25 (q24 (eI V) (eC V))
/-- The mask's weights, from the arguments. -/
def eM (V : Valuation τ sig (Elt Ideal)) : FVec Ideal S16384x8x1 .f32 := q30 (V (Proc.devRef .tc main_arg1))

variable (V : Valuation τ sig (Elt Ideal))

/-- The first result at the end of the run. -/
theorem end_out : after (ops (F := Ideal)) V (Proc.devRef .tc main_v71)
    = q71 (q63 (q42 (eZ V) (eQ V)) (V (Proc.devRef .tc main_arg5))) (V (Proc.devRef .tc main_arg6))
        (V (Proc.devRef .tc main_arg7)) (V (Proc.devRef .tc main_arg8)) := by
  unfold eZ eQ eI eC
  rw [ops]
  repeat rw [after_join]
  repeat (first | rw [read_q7] | rw [read_q22] | rw [read_q23] | rw [read_q24] | rw [read_q25] | rw [read_q30] | rw [read_q40] | rw [read_q42] | rw [read_q43] | rw [read_q48] | rw [read_q44] | rw [read_q59] | rw [read_q63] | rw [read_q71] | rw [read_q72] | rw [read_q73] | rw [keep_a _ (by decide)] | rw [keep_b _ (by decide)] | rw [keep_c _ (by decide)] | rw [keep_d _ (by decide)] | rw [keep_e _ (by decide)] | rw [keep_f _ (by decide)] | rw [keep_g _ (by decide)] | rw [keep_h _ (by decide)] | rw [keep_i _ (by decide)] | rw [keep_j _ (by decide)] | rw [keep_k _ (by decide)] | rw [keep_l _ (by decide)] | rw [keep_m _ (by decide)])
  rfl

/-- The second result at the end of the run. -/
theorem end_cmt : after (ops (F := Ideal)) V (Proc.devRef .tc main_v72) = q72 (q40 (eQ V) (eZ V) (eM V)) := by
  unfold eZ eQ eI eC eM
  rw [ops]
  repeat rw [after_join]
  repeat (first | rw [read_q7] | rw [read_q22] | rw [read_q23] | rw [read_q24] | rw [read_q25] | rw [read_q30] | rw [read_q40] | rw [read_q42] | rw [read_q43] | rw [read_q48] | rw [read_q44] | rw [read_q59] | rw [read_q63] | rw [read_q71] | rw [read_q72] | rw [read_q73] | rw [keep_a _ (by decide)] | rw [keep_b _ (by decide)] | rw [keep_c _ (by decide)] | rw [keep_d _ (by decide)] | rw [keep_e _ (by decide)] | rw [keep_f _ (by decide)] | rw [keep_g _ (by decide)] | rw [keep_h _ (by decide)] | rw [keep_i _ (by decide)] | rw [keep_j _ (by decide)] | rw [keep_k _ (by decide)] | rw [keep_l _ (by decide)] | rw [keep_m _ (by decide)])
  rfl

/-- The third result at the end of the run. -/
theorem end_perp : after (ops (F := Ideal)) V (Proc.devRef .tc main_v73) = q73 (q59 (q48 (q43 (eI V)) (eM V)) (q44 (eM V))) := by
  unfold eI eM eZ eC
  rw [ops]
  repeat rw [after_join]
  repeat (first | rw [read_q7] | rw [read_q22] | rw [read_q23] | rw [read_q24] | rw [read_q25] | rw [read_q30] | rw [read_q40] | rw [read_q42] | rw [read_q43] | rw [read_q48] | rw [read_q44] | rw [read_q59] | rw [read_q63] | rw [read_q71] | rw [read_q72] | rw [read_q73] | rw [keep_a _ (by decide)] | rw [keep_b _ (by decide)] | rw [keep_c _ (by decide)] | rw [keep_d _ (by decide)] | rw [keep_e _ (by decide)] | rw [keep_f _ (by decide)] | rw [keep_g _ (by decide)] | rw [keep_h _ (by decide)] | rw [keep_i _ (by decide)] | rw [keep_j _ (by decide)] | rw [keep_k _ (by decide)] | rw [keep_l _ (by decide)] | rw [keep_m _ (by decide)])

end Cert.RefVals

end
-- ==== Proof.RefMath.lean ====
module

public import proofs.«01_k».proof.Proof.RefVals
public import Idealize.ShloMosaic.Lib.Pipeline.ValueKit
public import Idealize.ShloMosaic.Lib.Routing.Ops

@[expose] public section

/-! # The reference's quantities, entry by entry -/

set_option maxRecDepth 16384

noncomputable section

namespace Cert.RefMath

open Cert.ReferenceIdeal Idealize.ShloMosaic Cert.RefVals

/-- Vector `t` of row `B` in the line of all vectors. -/
abbrev tok (B : Fin 16384) (t : Fin 8) : Fin 131072 := ⟨B.val * 8 + t.val, by omega⟩

/-- The encoded vectors. -/
theorem q7_at (x : FVec Ideal S16384x32 .f32) (w : FVec Ideal S10x1x4 .f32) (b : FVec Ideal S10 .f32)
    (hb : ∀ d, b (ix1 d) = 0) (B : Fin 16384) (t : Fin 8) (d : Fin 10) :
    q7 x w b (ix3 B t d) = max (∑ j : Fin 4, x (ix2 B (Spec.lane t j)) * w (ix3 d 0 j)) 0 := by
  pointwise [q7]
  rw [hb, add_zero]
  refine congrArg (max · 0) (Finset.sum_congr rfl fun j _ => congrArg (fun l => x (ix2 B l) * w (ix3 d 0 j)) (Fin.ext ?_))
  show t.val * 4 + j.val = 4 * t.val + j.val
  omega

/-- The place of a vector in its row. -/
theorem tok_place (B : Fin 16384) (t : Fin 8) (h : (B.val * 8 + t.val) / 8 < 16384) (h' : (B.val * 8 + t.val) % 8 < 8) :
    (⟨(B.val * 8 + t.val) / 8, h⟩ : Fin 16384) = B ∧ (⟨(B.val * 8 + t.val) % 8, h'⟩ : Fin 8) = t :=
  ⟨Fin.ext (by show (B.val * 8 + t.val) / 8 = B.val; omega), Fin.ext (by show (B.val * 8 + t.val) % 8 = t.val; omega)⟩

/-- Reading at the place of a vector. -/
theorem read_tok {n : Nat} {α : Type} (v : (⟨3, ![16384, 8, n]⟩ : Shape).Idx → α) (B : Fin 16384) (t : Fin 8) (d : Fin n)
    (h : (B.val * 8 + t.val) / 8 < 16384) (h' : (B.val * 8 + t.val) % 8 < 8) :
    v (ix3 ⟨(B.val * 8 + t.val) / 8, h⟩ ⟨(B.val * 8 + t.val) % 8, h'⟩ d) = v (ix3 B t d) := by
  rw [(tok_place B t h h').1, (tok_place B t h h').2]

/-- The distances. -/
theorem q22_at (v : FVec Ideal S16384x8x10 .f32) (a : FVec Ideal S128x10 .f32) (B : Fin 16384) (t : Fin 8) (k : Fin 128) :
    q22 v a (ix2 (tok B t) k) = (∑ d : Fin 10, v (ix3 B t d) * v (ix3 B t d))
      - (∑ d : Fin 10, (((2 : ℝ) : EReal) * v (ix3 B t d)) * a (ix2 k d)) + ∑ d : Fin 10, a (ix2 k d) * a (ix2 k d) := by
  pointwise [q22]
  simp only [read_tok v, Consts.two]

/-- The codes row by row. -/
theorem q25_at (q : FVec Ideal S131072x10 .f32) (B : Fin 16384) (t : Fin 8) (d : Fin 10) :
    q25 q (ix3 B t d) = q (ix2 (tok B t) d) := by
  pointwise [q25]

/-- Without padding every weight is one. -/
theorem q30_at (k : IVec S16384x1 1) (hk : ∀ B, k (ix2 B 0) = 0#1) (B : Fin 16384) (t : Fin 8) : q30 k (ix3 B t 0) = 1 := by
  pointwise [q30]
  rw [hk]
  show ((((~~~(0#1)).toNat : ℕ) : ℝ) : EReal) = 1
  simp

/-- The straight-through vectors. -/
theorem q42_at (z q : FVec Ideal S16384x8x10 .f32) (B : Fin 16384) (t : Fin 8) (d : Fin 10) :
    q42 z q (ix3 B t d) = z (ix3 B t d) + (q (ix3 B t d) - z (ix3 B t d)) := by
  pointwise [q42]

/-- A bit read as a number. -/
theorem bit_number (b : Prop) [Decidable b] : (FloatOps.uitofp (F := Ideal) .f32 (BitVec.ofBool (decide b)) : EReal) = if b then 1 else 0 := by
  show ((((BitVec.ofBool (decide b)).toNat : ℕ) : ℝ) : EReal) = _
  by_cases h : b <;> simp [h]

/-- The one-hot rows. -/
theorem q43_at (i : IVec S131072 32) (n : Fin 131072) (k : Fin 128) :
    q43 i (ix2 n k) = if i (ix1 n) = BitVec.ofNat 32 k.val then 1 else 0 := by
  pointwise [q43]
  exact bit_number (i (ix1 n) = BitVec.ofNat 32 k.val)

/-- The scaled square error. -/
theorem q40_at (q z : FVec Ideal S16384x8x10 .f32) (w : FVec Ideal S16384x8x1 .f32) :
    q72 (q40 q z w) (ix2 0 0) = Ideal.ofBits .f32 0x3E800000#32
      * Ideal.div (∑ B : Fin 16384, ∑ t : Fin 8, ∑ d : Fin 10,
          ((q (ix3 B t d) - z (ix3 B t d)) * (q (ix3 B t d) - z (ix3 B t d))) * w (ix3 B t 0))
        ((∑ B : Fin 16384, ∑ t : Fin 8, ∑ k : Fin 1, w (ix3 B t k)) * Ideal.ofBits .f32 0x41200000#32 + Ideal.ofBits .f32 0x3089705F#32) := by
  pointwise [q72, q40]

/-- The perplexity. -/
theorem q59_at (c : FVec Ideal S128 .f32) (w : FVec Ideal S131072 .f32) :
    q73 (q59 c w) (ix2 0 0) = Ideal.exp (-∑ x : Fin 128,
      Ideal.div (c (ix1 x)) ((∑ n : Fin 131072, w (ix1 n)) + Ideal.ofBits .f32 0x3089705F#32)
      * Ideal.log (Ideal.div (c (ix1 x)) ((∑ n : Fin 131072, w (ix1 n)) + Ideal.ofBits .f32 0x3089705F#32) + Ideal.ofBits .f32 0x2EDBE6FF#32)) := by
  pointwise [q73, q59]

/-- The weights in a line. -/
theorem q44_at (w : FVec Ideal S16384x8x1 .f32) (B : Fin 16384) (t : Fin 8) : q44 w (ix1 (tok B t)) = w (ix3 B t 0) := by
  pointwise [q44]
  simp only [read_tok w]

/-- The weighted counts. -/
theorem q48_at (e : FVec Ideal S131072x128 .f32) (w : FVec Ideal S16384x8x1 .f32) (k : Fin 128) :
    q48 e w (ix1 k) = ∑ B : Fin 16384, ∑ t : Fin 8, e (ix2 (tok B t) k) * w (ix3 B t 0) := by
  pointwise [q48]
  rw [Fin.sum_univ_tiles 16384 8 rfl]
  simp only [read_tok w]

/-- The output. -/
theorem q71_at (s : FVec Ideal S16384x8x10 .f32) (fc : FVec Ideal S256x80 .f32) (b : FVec Ideal S256 .f32)
    (mu : FVec Ideal S128x256 .f32) (b' : FVec Ideal S128 .f32) (hb : ∀ e, b (ix1 e) = 0) (hb' : ∀ o, b' (ix1 o) = 0)
    (B : Fin 16384) (o : Fin 128) :
    q71 (q63 s fc) b mu b' (ix2 B o) = ∑ e : Fin 256,
      (∑ t : Fin 8, ∑ c : Fin 10, fc (ix2 e ⟨8 * c.val + t.val, by omega⟩) * s (ix3 B t c)) * mu (ix2 o e) := by
  pointwise [q71, q63]
  simp only [hb, hb', add_zero]
  refine Finset.sum_congr rfl fun e _ => congrArg (· * mu (ix2 o e)) ?_
  rw [Fin.sum_univ_tiles 10 8 rfl, Finset.sum_comm]
  refine Finset.sum_congr rfl fun t _ => Finset.sum_congr rfl fun c _ => ?_
  have h1 : ∀ h, (⟨(c.val * 8 + t.val) / 8, h⟩ : Fin 10) = c := fun h => Fin.ext (by show (c.val * 8 + t.val) / 8 = c.val; omega)
  have h2 : ∀ h, (⟨(c.val * 8 + t.val) % 8, h⟩ : Fin 8) = t := fun h => Fin.ext (by show (c.val * 8 + t.val) % 8 = t.val; omega)
  have h3 : ∀ h, (⟨c.val * 8 + t.val, h⟩ : Fin 80) = ⟨8 * c.val + t.val, by omega⟩ := fun h => Fin.ext (by show c.val * 8 + t.val = 8 * c.val + t.val; omega)
  simp only [h1, h2, h3]
  exact mul_comm _ _

/-- A code's number is not negative, so it is read as it is. -/
theorem wrap_code : ∀ k : Fin 128, Scalar.select (IntOp.cmpi CmpIPredicate.slt (BitVec.ofNat 32 k.val) 0#32)
    (IntOp.addi (BitVec.ofNat 32 k.val) 128#32) (BitVec.ofNat 32 k.val) = BitVec.ofNat 32 k.val := by
  decide

/-- A code's number lies between the first and the last. -/
theorem range_code : ∀ k : Fin 128, IntOp.andi (IntOp.cmpi CmpIPredicate.sge (BitVec.ofNat 32 k.val) 0#32)
    (IntOp.cmpi CmpIPredicate.sle (BitVec.ofNat 32 k.val) 127#32) = 1#1 := by
  decide

/-- The nearest code, where its number is a code's. -/
theorem q24_at (i : IVec S131072 32) (a : FVec Ideal S128x10 .f32) (n : Fin 131072) (k : Fin 128) (d : Fin 10)
    (hi : i (ix1 n) = BitVec.ofNat 32 k.val) : q24 i a (ix2 n d) = a (ix2 k d) := by
  have hg : ∀ x : IVec S131072x1 32, x (ix2 n (0 : Fin 1)) = BitVec.ofNat 32 k.val →
      Host.gather gather_S128x10_S131072x1_S131072x10_1_0_n_n_0_1_110 a x (ix2 n d) = a (ix2 k d) := fun x hx =>
    Routing.gather_row gather_S128x10_S131072x1_S131072x10_1_0_n_n_0_1_110 rfl rfl rfl rfl rfl a x n d k hx (by decide)
  pointwise [q24]
  rw [hg _ (by pointwise; rw [hi, wrap_code])]
  simp only [hi, wrap_code, range_code]
  have h1 : Finset.fold IntOp.andi (1#1) (fun _ : Fin 1 => 1#1) Finset.univ = 1#1 := by
    decide
  erw [h1]
  rfl

end Cert.RefMath

end
-- ==== Proof.Argmin.lean ====
module

public import proofs.«01_k».proof.Proof.RefVals
public import Idealize.ShloMosaic.PureOps.Ideal.Laws
public import Idealize.ShloMosaic.Lib.Pipeline.ValueKit

@[expose] public section

/-! # The number of the nearest code, where exactly one code is nearest -/

set_option maxRecDepth 16384

noncomputable section

namespace Cert.Argmin

open Cert.ReferenceIdeal Cert.ReferenceIdeal.Facts₀ Cert.ReferenceIdeal.Facts Idealize.ShloMosaic Cert.RefVals

/-- The comparison keeps the pair that is strictly smaller on the left. -/
theorem step_left (a b : Ideal .f32 × BitVec 32) (h : (a.1 : EReal) < b.1) : reducer_argmin_f32_i32 (F := Ideal) a b = a := by
  have h2 : ¬ (a.1 : EReal) = b.1 := h.ne
  simp [reducer_argmin_f32_i32, Ideal.cmpf_def, Ideal.cmp, IntOp.ori, IntOp.andi, Scalar.select, h, h2]

/-- The comparison keeps the pair that is strictly smaller on the right. -/
theorem step_right (a b : Ideal .f32 × BitVec 32) (h : (b.1 : EReal) < a.1) : reducer_argmin_f32_i32 (F := Ideal) a b = b := by
  have h1 : ¬ (a.1 : EReal) < b.1 := not_lt.mpr h.le
  have h2 : ¬ (a.1 : EReal) = b.1 := h.ne'
  simp [reducer_argmin_f32_i32, Ideal.cmpf_def, Ideal.cmp, IntOp.ori, IntOp.andi, Scalar.select, h1, h2]

/-- Comparing a pair with itself keeps it. -/
theorem step_self (a : Ideal .f32 × BitVec 32) : reducer_argmin_f32_i32 (F := Ideal) a a = a := by
  simp [reducer_argmin_f32_i32, Ideal.cmpf_def, Ideal.cmp, IntOp.ori, IntOp.andi, Scalar.select]

/-- The comparison never goes below both sides. -/
theorem step_above (v : EReal) (a b : Ideal .f32 × BitVec 32) (ha : v < a.1) (hb : v < b.1) :
    v < (reducer_argmin_f32_i32 (F := Ideal) a b).1 := by
  rcases lt_trichotomy (a.1 : EReal) b.1 with h | h | h
  · rw [step_left a b h]; exact ha
  · have h1 : ¬ (a.1 : EReal) < b.1 := h.not_lt
    simpa [reducer_argmin_f32_i32, Ideal.cmpf_def, Ideal.cmp, IntOp.ori, Scalar.select, h1] using hb
  · rw [step_right a b h]; exact hb

/-- Over a list whose pairs are one smallest pair and larger ones, the comparison leaves the smallest. -/
theorem fold_eq (p : Ideal .f32 × BitVec 32) (l : List (Ideal .f32 × BitVec 32)) :
    ∀ a : Ideal .f32 × BitVec 32, (∀ x ∈ l, x = p ∨ (p.1 : EReal) < x.1) → (a = p ∨ (p.1 : EReal) < a.1 ∧ p ∈ l) →
      l.foldl (reducer_argmin_f32_i32 (F := Ideal)) a = p := by
  induction l with
  | nil =>
    intro a _ h
    rcases h with h | ⟨_, h⟩
    · exact h
    · cases h
  | cons b l ih =>
    intro a hl h
    rw [List.foldl_cons]
    have hl' : ∀ x ∈ l, x = p ∨ (p.1 : EReal) < x.1 := fun x hx => hl x (List.mem_cons_of_mem _ hx)
    refine ih _ hl' ?_
    rcases h with h | ⟨h, hp⟩
    · subst h
      rcases hl b List.mem_cons_self with hb | hb
      · subst hb; exact Or.inl (step_self b)
      · exact Or.inl (step_left a b hb)
    · rcases hl b List.mem_cons_self with hb | hb
      · subst hb; exact Or.inl (step_right a b h)
      · refine Or.inr ⟨step_above _ a b h hb, ?_⟩
        rcases List.mem_cons.mp hp with hp | hp
        · subst hp; exact absurd hb (lt_irrefl _)
        · exact hp

/-- The row of an entry of the distances. -/
theorem drop_eq (n n' : Fin 131072) (k : Fin 128) :
    reducesTo_S131072x128_S131072_d1.drop (ix2 n' k) = ix1 n ↔ n' = n := by
  constructor
  · intro h
    have := congrArg (fun i => (i 0).val) h
    rw [Shape.ReducesTo.drop_apply_val_of_eq _ _ _ 0 (by decide)] at this
    exact Fin.ext this
  · intro h
    subst h
    funext a
    fin_cases a
    refine Fin.ext ?_
    rw [Shape.ReducesTo.drop_apply_val_of_eq _ _ _ 0 (by decide)]
    rfl

/-- The pairs at an entry are the ones whose place falls on it. -/
theorem mem_fiber {α β : Type} {s t : Shape} {axes : List (Fin s.rank)} (x : s.Idx → α) (y : s.Idx → β) (h : s.ReducesTo axes t)
    (j : t.Idx) (p : α × β) : p ∈ Host.argReduceFiber x y h j ↔ ∃ i, h.drop i = j ∧ (x i, y i) = p := by
  unfold Host.argReduceFiber
  constructor
  · intro hp
    obtain ⟨n, hn, rfl⟩ := List.mem_map.mp hp
    exact ⟨s.rowMajor.symm n, by simpa using (List.mem_filter.mp hn).2, rfl⟩
  · rintro ⟨i, hi, rfl⟩
    refine List.mem_map.mpr ⟨s.rowMajor i, List.mem_filter.mpr ⟨List.mem_finRange _, ?_⟩, ?_⟩
    · simpa using hi
    · rw [Equiv.symm_apply_apply]

/-- The pairs at an entry, each a value and its code. -/
theorem mem_row (x : S131072x128.Idx → Ideal .f32) (y : S131072x128.Idx → BitVec 32) (n : Fin 131072) (p : Ideal .f32 × BitVec 32) :
    p ∈ Host.argReduceFiber x y reducesTo_S131072x128_S131072_d1 (ix1 n) ↔ ∃ k : Fin 128, (x (ix2 n k), y (ix2 n k)) = p := by
  rw [mem_fiber]
  constructor
  · rintro ⟨i, hi, rfl⟩
    obtain ⟨a, b, rfl⟩ : ∃ a b, i = ix2 a b := ⟨i 0, i 1, by idx_vars i⟩
    rw [drop_eq] at hi
    subst hi
    exact ⟨b, rfl⟩
  · rintro ⟨k, rfl⟩
    exact ⟨ix2 n k, (drop_eq _ _ _).mpr rfl, rfl⟩

/-- The search's result, where one pair is below all others and below the start. -/
theorem search_eq (x : FVec Ideal S131072x128 .f32) (y : S131072x128.Idx → BitVec 32) (u : FVec Ideal S_ .f32) (v : S_.Idx → BitVec 32)
    (n : Fin 131072) (k : Fin 128) (hu : (x (ix2 n k) : EReal) < u (Shape.Idx.first h_S_))
    (hk : ∀ k', k' ≠ k → (x (ix2 n k) : EReal) < x (ix2 n k')) :
    Host.argReduce (reducer_argmin_f32_i32 (F := Ideal)) x y u v reducesTo_S131072x128_S131072_d1 h_S_ (ix1 n) = (x (ix2 n k), y (ix2 n k)) := by
  rw [Ideal.argReduce_eq_reduce2, Host.reduce2_eq_foldl_fiber]
  refine fold_eq _ _ _ ?_ (Or.inr ⟨hu, (mem_row x y n _).mpr ⟨k, rfl⟩⟩)
  intro p hp
  obtain ⟨k', rfl⟩ := (mem_row x y n p).mp hp
  by_cases h : k' = k
  · subst h; exact Or.inl rfl
  · exact Or.inr (hk k' h)

/-- The numbers of the codes, entry by entry. -/
theorem iota_at (n : Fin 131072) (k : Fin 128) : iotaInDim S131072x128 32 1 (ix2 n k) = BitVec.ofNat 32 k.val := by
  pointwise

/-- The nearest code's number is the second half of what the search finds. -/
theorem q23_eq (v : FVec Ideal S131072x128 .f32) (n : Fin 131072) :
    q23 v (ix1 n) = (Host.argReduce (reducer_argmin_f32_i32 (F := Ideal)) v (iotaInDim S131072x128 32 1)
      (constant S_ .f32 0x7F800000#32) (constantI S_ 32 0#32) reducesTo_S131072x128_S131072_d1 h_S_ (ix1 n)).2 := by
  rw [q23]

/-- Where one code is strictly nearest, its number is what the search gives. -/
theorem q23_at (v : FVec Ideal S131072x128 .f32) (n : Fin 131072) (k : Fin 128) (hfin : (v (ix2 n k) : EReal) < ⊤)
    (hk : ∀ k', k' ≠ k → (v (ix2 n k) : EReal) < v (ix2 n k')) : q23 v (ix1 n) = BitVec.ofNat 32 k.val := by
  have hu : (v (ix2 n k) : EReal) < (constant (F := Ideal) S_ .f32 0x7F800000#32) (Shape.Idx.first h_S_) := by
    show (v (ix2 n k) : EReal) < Ideal.ofBits .f32 0x7F800000#32
    rw [Consts.inf]
    exact hfin
  have h := search_eq v (iotaInDim S131072x128 32 1) (constant S_ .f32 0x7F800000#32) (constantI S_ 32 0#32) n k hu hk
  rw [iota_at] at h
  rw [q23_eq, h]

end Cert.Argmin

end
-- ==== Proof.RefFinal.lean ====
module

public import proofs.«01_k».proof.Proof.RefMath
public import proofs.«01_k».proof.Proof.Argmin
public import proofs.«01_k».proof.Proof.Near

@[expose] public section

/-! # The reference's three results over arrays the precondition admits -/

set_option maxRecDepth 16384

noncomputable section

namespace Cert.RefFinal

open Cert.ReferenceIdeal Idealize.ShloMosaic Cert.RefVals Cert.RefMath

variable (a0 : FVec Ideal S16384x32 .f32) (a1 : IVec S16384x1 1) (a2 : FVec Ideal S10x1x4 .f32) (a3 : FVec Ideal S10 .f32)
  (a4 : FVec Ideal S128x10 .f32) (a5 : FVec Ideal S256x80 .f32) (a6 : FVec Ideal S256 .f32) (a7 : FVec Ideal S128x256 .f32)
  (a8 : FVec Ideal S128 .f32)

/-- The convolution's weights. -/
abbrev cw : Fin 10 → Fin 4 → EReal := fun d j => a2 (ix3 d 0 j)

/-- The codes. -/
abbrev codes : Fin 128 → Fin 10 → EReal := fun k d => a4 (ix2 k d)

/-- A row of the input. -/
abbrev prow (B : Fin 16384) : Fin 32 → EReal := fun l => a0 (ix2 B l)

/-- A sum of ones over pairs counts the pairs. -/
theorem sum_ones (a b : ℕ) : (∑ _i : Fin a, ∑ _j : Fin b, (1 : EReal)) = (((a : ℝ) * (b : ℝ) : ℝ) : EReal) := by
  simp only [← EReal.coe_one, Near.coe_sum]
  refine congrArg _ ?_
  simp [Finset.sum_const, Finset.card_univ, Fintype.card_fin]

/-- The number of vectors. -/
theorem sum_tokens : (∑ _B : Fin 16384, ∑ _t : Fin 8, (1 : EReal)) = Ideal.ofBits .f32 0x48000000#32 := by
  rw [sum_ones, Consts.tokens]
  refine congrArg _ ?_
  norm_num

/-- One code is nearest to every vector, both ways of finding it give it, and the kernel's difference is that code's. -/
def Nearest : Prop := ∀ (B : Fin 16384) (t : Fin 8), ∃ k₀, Near.d2 (cw a2) (codes a4) (prow a0 B) t k₀ < ⊤
  ∧ (∀ k, k ≠ k₀ → Near.d2 (cw a2) (codes a4) (prow a0 B) t k₀ < Near.d2 (cw a2) (codes a4) (prow a0 B) t k)
  ∧ (∀ k, Spec.oh (cw a2) (codes a4) (prow a0 B) t k = if k = k₀ then 1 else 0)
  ∧ ∀ c, Spec.dl (cw a2) (codes a4) (prow a0 B) t c = codes a4 k₀ c - Spec.z (cw a2) (prow a0 B) t c

variable (h3 : ∀ d, a3 (ix1 d) = (0 : EReal)) (hn : Nearest a0 a2 a4)

include h3 in
/-- The encoded vectors. -/
theorem z_at (B : Fin 16384) (t : Fin 8) (d : Fin 10) : q7 a0 a2 a3 (ix3 B t d) = Spec.z (cw a2) (prow a0 B) t d := by
  rw [q7_at a0 a2 a3 h3]
  exact congrArg (max · 0) (Finset.sum_congr rfl fun j _ => mul_comm _ _)

include h3 in
/-- The distances. -/
theorem d2_at (B : Fin 16384) (t : Fin 8) (k : Fin 128) :
    q22 (q7 a0 a2 a3) a4 (ix2 (tok B t) k) = Near.d2 (cw a2) (codes a4) (prow a0 B) t k := by
  rw [q22_at]
  simp only [z_at a0 a2 a3 h3]
  rfl

include h3 in
/-- The nearest code's number. -/
theorem idx_at (B : Fin 16384) (t : Fin 8) (k : Fin 128) (hf : Near.d2 (cw a2) (codes a4) (prow a0 B) t k < ⊤)
    (hk : ∀ k', k' ≠ k → Near.d2 (cw a2) (codes a4) (prow a0 B) t k < Near.d2 (cw a2) (codes a4) (prow a0 B) t k') :
    q23 (q22 (q7 a0 a2 a3) a4) (ix1 (tok B t)) = BitVec.ofNat 32 k.val := by
  refine Argmin.q23_at _ _ k ?_ fun k' hne => ?_
  · rw [d2_at a0 a2 a3 a4 h3]; exact hf
  · rw [d2_at a0 a2 a3 a4 h3, d2_at a0 a2 a3 a4 h3]; exact hk k' hne

include h3 hn in
/-- The nearest code less the vector. -/
theorem dl_at (B : Fin 16384) (t : Fin 8) (d : Fin 10) :
    (q25 (q24 (q23 (q22 (q7 a0 a2 a3) a4)) a4) (ix3 B t d) - Spec.z (cw a2) (prow a0 B) t d : EReal)
      = Spec.dl (cw a2) (codes a4) (prow a0 B) t d := by
  obtain ⟨k, hf, hk, -, hd⟩ := hn B t
  rw [hd d, q25_at, q24_at _ a4 (tok B t) k d (idx_at a0 a2 a3 a4 h3 B t k hf hk)]

/-- Different codes have different numbers. -/
theorem number_inj (k k' : Fin 128) : BitVec.ofNat 32 k'.val = BitVec.ofNat 32 k.val ↔ k = k' := by
  constructor
  · intro h
    have := congrArg BitVec.toNat h
    rw [BitVec.toNat_ofNat, BitVec.toNat_ofNat, Nat.mod_eq_of_lt (by omega), Nat.mod_eq_of_lt (by omega)] at this
    exact Fin.ext this.symm
  · rintro rfl
    rfl

include h3 hn in
/-- The one-hot rows. -/
theorem oh_at (B : Fin 16384) (t : Fin 8) (k : Fin 128) :
    q43 (q23 (q22 (q7 a0 a2 a3) a4)) (ix2 (tok B t) k) = Spec.oh (cw a2) (codes a4) (prow a0 B) t k := by
  obtain ⟨k₀, hf, hk, ho, -⟩ := hn B t
  rw [ho k, q43_at, idx_at a0 a2 a3 a4 h3 B t k₀ hf hk]
  simp only [number_inj]

include h3 hn in
/-- The output. -/
theorem out_eq (h6 : ∀ e, a6 (ix1 e) = (0 : EReal)) (h8 : ∀ o, a8 (ix1 o) = (0 : EReal)) (B : Fin 16384) (o : Fin 128) :
    q71 (q63 (q42 (q7 a0 a2 a3) (q25 (q24 (q23 (q22 (q7 a0 a2 a3) a4)) a4))) a5) a6 a7 a8 (ix2 B o)
      = Spec.out (cw a2) (codes a4) (fun e l => a5 (ix2 e l)) (fun o e => a7 (ix2 o e)) (prow a0 B) o := by
  rw [q71_at _ _ _ _ _ h6 h8]
  simp only [q42_at, z_at a0 a2 a3 h3, dl_at a0 a2 a3 a4 h3 hn]
  rfl

include h3 hn in
/-- The commitment loss. -/
theorem cmt_eq (h1 : ∀ B, a1 (ix2 B 0) = 0#1) :
    q72 (q40 (q25 (q24 (q23 (q22 (q7 a0 a2 a3) a4)) a4)) (q7 a0 a2 a3) (q30 a1)) (ix2 0 0)
      = Ideal.ofBits .f32 0x3E800000#32 * Ideal.div (∑ B : Fin 16384, Spec.err (cw a2) (codes a4) (prow a0 B))
        (Ideal.ofBits .f32 0x48000000#32 * Ideal.ofBits .f32 0x41200000#32 + Ideal.ofBits .f32 0x3089705F#32) := by
  have hw : ∀ (B : Fin 16384) (t : Fin 8) (k : Fin 1), q30 a1 (ix3 B t k) = (1 : EReal) := by
    intro B t k
    rw [Subsingleton.elim k 0]
    exact q30_at a1 h1 B t
  have hs : (∑ _B : Fin 16384, ∑ _t : Fin 8, ∑ _k : Fin 1, (1 : EReal)) = Ideal.ofBits .f32 0x48000000#32 := by
    rw [← sum_tokens]
    exact Finset.sum_congr rfl fun B _ => Finset.sum_congr rfl fun t _ => Fin.sum_univ_one _
  rw [q40_at]
  simp only [hw, hs, mul_one, z_at a0 a2 a3 h3, dl_at a0 a2 a3 a4 h3 hn]
  rfl

include h3 hn in
/-- The perplexity. -/
theorem perp_eq (h1 : ∀ B, a1 (ix2 B 0) = 0#1) :
    q73 (q59 (q48 (q43 (q23 (q22 (q7 a0 a2 a3) a4))) (q30 a1)) (q44 (q30 a1))) (ix2 0 0)
      = Ideal.exp (-∑ k : Fin 128,
        Ideal.div (∑ B : Fin 16384, ∑ t : Fin 8, Spec.oh (cw a2) (codes a4) (prow a0 B) t k)
            (Ideal.ofBits .f32 0x48000000#32 + Ideal.ofBits .f32 0x3089705F#32)
          * Ideal.log (Ideal.div (∑ B : Fin 16384, ∑ t : Fin 8, Spec.oh (cw a2) (codes a4) (prow a0 B) t k)
            (Ideal.ofBits .f32 0x48000000#32 + Ideal.ofBits .f32 0x3089705F#32) + Ideal.ofBits .f32 0x2EDBE6FF#32)) := by
  have hw : ∀ (B : Fin 16384) (t : Fin 8), q30 a1 (ix3 B t 0) = (1 : EReal) := q30_at a1 h1
  have hs : (∑ n : Fin 131072, q44 (q30 a1) (ix1 n) : EReal) = Ideal.ofBits .f32 0x48000000#32 := by
    rw [← sum_tokens, Fin.sum_univ_tiles 16384 8 rfl]
    have : ∀ (B : Fin 16384) (t : Fin 8), q44 (q30 a1) (ix1 (tok B t)) = (1 : EReal) := fun B t => by rw [q44_at, hw]
    exact Finset.sum_congr rfl fun B _ => Finset.sum_congr rfl fun t _ => this B t
  rw [q59_at]
  simp only [hs, q48_at, hw, mul_one, oh_at a0 a2 a3 a4 h3 hn]

end Cert.RefFinal

end
-- ==== Proof.RefAll.lean ====
module

public import proofs.«01_k».proof.Proof.RefEnd
public import proofs.«01_k».proof.Proof.RefFinal

@[expose] public section

/-! # What the reference leaves, as a function of its arguments -/

set_option maxRecDepth 16384

noncomputable section

namespace Cert.RefAll

open Cert.ReferenceIdeal Idealize.ShloMosaic Idealize.ShloMosaic.StableHlo Cert.RefVals Cert.RefRun

variable (V : Valuation τ sig (Elt Ideal)) (a0 : FVec Ideal S16384x32 .f32) (a1 : IVec S16384x1 1) (a2 : FVec Ideal S10x1x4 .f32) (a3 : FVec Ideal S10 .f32)
  (a4 : FVec Ideal S128x10 .f32) (a5 : FVec Ideal S256x80 .f32) (a6 : FVec Ideal S256 .f32) (a7 : FVec Ideal S128x256 .f32)
  (a8 : FVec Ideal S128 .f32)

/-- The output. -/
theorem out (e0 : V (Proc.devRef .tc main_arg0) = a0) (e2 : V (Proc.devRef .tc main_arg2) = a2) (e3 : V (Proc.devRef .tc main_arg3) = a3) (e4 : V (Proc.devRef .tc main_arg4) = a4) (e5 : V (Proc.devRef .tc main_arg5) = a5) (e6 : V (Proc.devRef .tc main_arg6) = a6) (e7 : V (Proc.devRef .tc main_arg7) = a7) (e8 : V (Proc.devRef .tc main_arg8) = a8) :
    after (ops (F := Ideal)) V (Proc.devRef .tc main_v71) = q71 (q63 (q42 (q7 a0 a2 a3) (q25 (q24 (q23 (q22 (q7 a0 a2 a3) a4)) a4))) a5) a6 a7 a8 := by
  subst e0 e2 e3 e4 e5 e6 e7 e8
  exact end_out V

/-- The commitment loss. -/
theorem cmt (e0 : V (Proc.devRef .tc main_arg0) = a0) (e1 : V (Proc.devRef .tc main_arg1) = a1) (e2 : V (Proc.devRef .tc main_arg2) = a2) (e3 : V (Proc.devRef .tc main_arg3) = a3) (e4 : V (Proc.devRef .tc main_arg4) = a4) :
    after (ops (F := Ideal)) V (Proc.devRef .tc main_v72) = q72 (q40 (q25 (q24 (q23 (q22 (q7 a0 a2 a3) a4)) a4)) (q7 a0 a2 a3) (q30 a1)) := by
  subst e0 e1 e2 e3 e4
  exact end_cmt V

/-- The perplexity. -/
theorem perp (e0 : V (Proc.devRef .tc main_arg0) = a0) (e1 : V (Proc.devRef .tc main_arg1) = a1) (e2 : V (Proc.devRef .tc main_arg2) = a2) (e3 : V (Proc.devRef .tc main_arg3) = a3) (e4 : V (Proc.devRef .tc main_arg4) = a4) :
    after (ops (F := Ideal)) V (Proc.devRef .tc main_v73) = q73 (q59 (q48 (q43 (q23 (q22 (q7 a0 a2 a3) a4))) (q30 a1)) (q44 (q30 a1))) := by
  subst e0 e1 e2 e3 e4
  exact end_perp V

end Cert.RefAll

end
-- ==== Proof.Algebraic.lean ====
module

public import proofs.«01_k».proof.Defs
public import proofs.«01_k».proof.Proof.Gen.KernelIdeal.Value
public import proofs.«01_k».proof.Proof.KEnd
public import proofs.«01_k».proof.Proof.PreFacts
public import proofs.«01_k».proof.Proof.RefAll
public import Idealize.ShloMosaic.Lib.Claim

@[expose] public section

/-! # The kernel and the reference agree over the arrays the precondition admits -/

set_option maxRecDepth 16384

noncomputable section

namespace Cert.Algebraic

open Idealize.ShloMosaic Idealize.SL.Sem

/-- The memory the kernel starts from. -/
abbrev KMem := (ℓ : Loc Cert.KernelIdeal.nD Cert.KernelIdeal.τ Cert.KernelIdeal.sig) → Buf (Elt Ideal) ℓ

/-- The memory the reference starts from. -/
abbrev RMem := (ℓ : Loc Cert.ReferenceIdeal.nD Cert.ReferenceIdeal.τ Cert.ReferenceIdeal.sig) → Buf (Elt Ideal) ℓ

variable (m : KMem) (m' : RMem) (hpre : Cert.Pre_KernelIdeal_drawn (hPre_drawn := PreFacts.preFacts) m)
  (hagree : ∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
  (c : Dev Cert.KernelIdeal.nD)

include hpre in
/-- One code is nearest to every vector. -/
theorem nearest : RefFinal.Nearest (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) := fun B t =>
  haveI := PreFacts.preFacts
  Near.near _ _ _ t (PreFacts.conv_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c).2.1) (PreFacts.row_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c).1 B)
    (PreFacts.code_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c).2.2.1) (PreFacts.one_nearest (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c).2.2.2.2.2.2.2 B t)

include hpre in
/-- The convolution's bias is zero. -/
theorem bias_conv (d : Fin 10) : (m ((c.tc : Thread Cert.KernelIdeal.nD Cert.KernelIdeal.τ).loc Cert.KernelIdeal.main_arg3)) (ix1 d) = (0 : EReal) :=
  haveI := PreFacts.preFacts
  PreFacts.bias_conv (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c).2.2.2.2.1 d

include hpre in
/-- The first dense layer's bias is zero. -/
theorem bias_fc (d : Fin 256) : (m ((c.tc : Thread Cert.KernelIdeal.nD Cert.KernelIdeal.τ).loc Cert.KernelIdeal.main_arg6)) (ix1 d) = (0 : EReal) :=
  haveI := PreFacts.preFacts
  PreFacts.bias_fc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c).2.2.2.2.2.1 d

include hpre in
/-- The second dense layer's bias is zero. -/
theorem bias_mu (d : Fin 128) : (m ((c.tc : Thread Cert.KernelIdeal.nD Cert.KernelIdeal.τ).loc Cert.KernelIdeal.main_arg8)) (ix1 d) = (0 : EReal) :=
  haveI := PreFacts.preFacts
  PreFacts.bias_mu (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c).2.2.2.2.2.2.1 d

include hpre in
/-- Nothing is padding. -/
theorem mask_zero (B : Fin 16384) : (m ((c.tc : Thread Cert.KernelIdeal.nD Cert.KernelIdeal.τ).loc Cert.KernelIdeal.main_arg1)) (ix2 B 0) = 0#1 :=
  haveI := PreFacts.preFacts
  PreFacts.mask_zero (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c).2.2.2.1 B

include hpre hagree in
/-- The outputs agree. -/
theorem out : StableHlo.after (RefRun.ops (F := Ideal)) (StableHlo.launchContents m' c) (Proc.devRef .tc Cert.ReferenceIdeal.main_v71)
    = (Cert.KernelIdeal.Gen.dats m 0 c).arrAt 5 Cert.KernelIdeal.cfg0.N := by
  refine (RefAll.out _ _ _ _ _ _ _ _ _ ((StableHlo.launchContents_devRef m' c Cert.ReferenceIdeal.main_arg0).trans (hagree c).1) ((StableHlo.launchContents_devRef m' c Cert.ReferenceIdeal.main_arg2).trans (hagree c).2.2.1) ((StableHlo.launchContents_devRef m' c Cert.ReferenceIdeal.main_arg3).trans (hagree c).2.2.2.1) ((StableHlo.launchContents_devRef m' c Cert.ReferenceIdeal.main_arg4).trans (hagree c).2.2.2.2.1) ((StableHlo.launchContents_devRef m' c Cert.ReferenceIdeal.main_arg5).trans (hagree c).2.2.2.2.2.1) ((StableHlo.launchContents_devRef m' c Cert.ReferenceIdeal.main_arg6).trans (hagree c).2.2.2.2.2.2.1) ((StableHlo.launchContents_devRef m' c Cert.ReferenceIdeal.main_arg7).trans (hagree c).2.2.2.2.2.2.2.1) ((StableHlo.launchContents_devRef m' c Cert.ReferenceIdeal.main_arg8).trans (hagree c).2.2.2.2.2.2.2.2)).trans ?_
  refine Eq.trans ?_ (KArrays.out_final m c _ _ (KArrays.aW_arg m c) (KArrays.aC_arg m c)).symm
  funext i
  obtain ⟨B, o, rfl⟩ : ∃ (B : Fin 16384) (o : Fin 128), i = ix2 B o := ⟨i 0, i 1, by idx_vars i⟩
  exact RefFinal.out_eq _ _ _ _ _ _ _ _ (bias_conv m hpre c) (nearest m hpre c) (bias_fc m hpre c) (bias_mu m hpre c) B o

include hpre hagree in
/-- The commitment losses agree. -/
theorem cmt : StableHlo.after (RefRun.ops (F := Ideal)) (StableHlo.launchContents m' c) (Proc.devRef .tc Cert.ReferenceIdeal.main_v72)
    = (Cert.KernelIdeal.Gen.dats m 0 c).arrAt 8 Cert.KernelIdeal.cfg0.N := by
  refine (RefAll.cmt _ _ _ _ _ _ ((StableHlo.launchContents_devRef m' c Cert.ReferenceIdeal.main_arg0).trans (hagree c).1) ((StableHlo.launchContents_devRef m' c Cert.ReferenceIdeal.main_arg1).trans (hagree c).2.1) ((StableHlo.launchContents_devRef m' c Cert.ReferenceIdeal.main_arg2).trans (hagree c).2.2.1) ((StableHlo.launchContents_devRef m' c Cert.ReferenceIdeal.main_arg3).trans (hagree c).2.2.2.1) ((StableHlo.launchContents_devRef m' c Cert.ReferenceIdeal.main_arg4).trans (hagree c).2.2.2.2.1)).trans ?_
  have h := KArrays.cmt_value m c
  rw [KArrays.aW_arg, KArrays.aC_arg] at h
  funext i
  obtain rfl : i = ix2 (0 : Fin 1) (0 : Fin 1) := by
    have h : ∃ (a b : Fin 1), i = ix2 a b := ⟨i 0, i 1, by idx_vars i⟩
    obtain ⟨a, b, rfl⟩ := h
    rw [Subsingleton.elim a 0, Subsingleton.elim b 0]
  exact (RefFinal.cmt_eq _ _ _ _ _ (bias_conv m hpre c) (nearest m hpre c) (mask_zero m hpre c)).trans h.symm

include hpre hagree in
/-- The perplexities agree. -/
theorem perp : StableHlo.after (RefRun.ops (F := Ideal)) (StableHlo.launchContents m' c) (Proc.devRef .tc Cert.ReferenceIdeal.main_v73)
    = (Cert.KernelIdeal.Gen.dats m 0 c).arrAt 9 Cert.KernelIdeal.cfg0.N := by
  refine (RefAll.perp _ _ _ _ _ _ ((StableHlo.launchContents_devRef m' c Cert.ReferenceIdeal.main_arg0).trans (hagree c).1) ((StableHlo.launchContents_devRef m' c Cert.ReferenceIdeal.main_arg1).trans (hagree c).2.1) ((StableHlo.launchContents_devRef m' c Cert.ReferenceIdeal.main_arg2).trans (hagree c).2.2.1) ((StableHlo.launchContents_devRef m' c Cert.ReferenceIdeal.main_arg3).trans (hagree c).2.2.2.1) ((StableHlo.launchContents_devRef m' c Cert.ReferenceIdeal.main_arg4).trans (hagree c).2.2.2.2.1)).trans ?_
  have h := KArrays.perp_value m c
  rw [KArrays.aW_arg, KArrays.aC_arg] at h
  funext i
  obtain rfl : i = ix2 (0 : Fin 1) (0 : Fin 1) := by
    have h : ∃ (a b : Fin 1), i = ix2 a b := ⟨i 0, i 1, by idx_vars i⟩
    obtain ⟨a, b, rfl⟩ := h
    rw [Subsingleton.elim a 0, Subsingleton.elim b 0]
  exact (RefFinal.perp_eq _ _ _ _ _ (bias_conv m hpre c) (nearest m hpre c) (mask_zero m hpre c)).trans h.symm

/-- The value claim: from memories that agree on the arguments both programs end with the same three results. -/
theorem algebraic : Cert.algebraic_KernelIdeal_ReferenceIdeal_pre_drawn (hKernelIdeal := Cert.KernelIdeal.Gen.facts)
    (hReferenceIdeal := Cert.ReferenceIdeal.Gen.facts) (hPre_drawn := PreFacts.preFacts) := by
  intro m g m' g' hpre hagree
  refine ⟨fun c => (Cert.KernelIdeal.Gen.dats m 0 c).arrAt 5 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N, ?_, ?_⟩
  · exact θ_run_mono (Cert.KernelIdeal.Value.run_blocks m g) fun r h c => ⟨(h c).1, (h c).2.2.2.1, (h c).2.2.2.2.1, (h c).2.2.2.2.2⟩
  · refine θ_run_mono (Cert.RefRun.run m' g') fun r h c => ⟨(h c _).trans (out m m' hpre hagree c), (h c _).trans (cmt m m' hpre hagree c),
      (h c _).trans (perp m m' hpre hagree c), ?_⟩
    exact ⟨(h c _).trans (Cert.RefRun.kept _ (by decide)), (h c _).trans (Cert.RefRun.kept _ (by decide)),
      (h c _).trans (Cert.RefRun.kept _ (by decide)), (h c _).trans (Cert.RefRun.kept _ (by decide)),
      (h c _).trans (Cert.RefRun.kept _ (by decide)), (h c _).trans (Cert.RefRun.kept _ (by decide)),
      (h c _).trans (Cert.RefRun.kept _ (by decide)), (h c _).trans (Cert.RefRun.kept _ (by decide)),
      (h c _).trans (Cert.RefRun.kept _ (by decide))⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import Idealize.ShloMosaic.Adequacy
public import Idealize.ShloMosaic.Init
public import Idealize.ShloMosaic.Lib.Claim
public import proofs.«01_k».proof.Proof.RefRun
public import proofs.«01_k».proof.Proof.PreFacts
public import proofs.«01_k».proof.Proof.Algebraic

@[expose] public section

noncomputable section

namespace Cert.Proof

open Idealize.ShloMosaic Idealize.SL.Sem Cert.Kernel

/-- The reference runs to its end from every memory and leaves its arguments as they were. -/
theorem frame_reference : Cert.quiescent_ReferenceIdeal (hReferenceIdeal := Cert.ReferenceIdeal.Gen.facts) := by
  intro m g _
  refine θ_run_mono (Cert.RefRun.run m g) fun r h => ⟨fun c => ?_, ?_⟩
  · exact ⟨(h c _).trans (Cert.RefRun.kept _ (by decide)), (h c _).trans (Cert.RefRun.kept _ (by decide)),
      (h c _).trans (Cert.RefRun.kept _ (by decide)), (h c _).trans (Cert.RefRun.kept _ (by decide)),
      (h c _).trans (Cert.RefRun.kept _ (by decide)), (h c _).trans (Cert.RefRun.kept _ (by decide)),
      (h c _).trans (Cert.RefRun.kept _ (by decide)), (h c _).trans (Cert.RefRun.kept _ (by decide)),
      (h c _).trans (Cert.RefRun.kept _ (by decide))⟩
  · funext x
    obtain ⟨_, s⟩ := x
    rcases s with s | s
    · exact Fin.elim0 s
    · exact Fin.elim0 s

/-- The claims of the certificate, assembled. -/
theorem claim : Cert.Claim := ⟨Cert.Kernel.Gen.facts, Cert.KernelIdeal.Gen.facts, Cert.ReferenceIdeal.Gen.facts, PreFacts.preFacts,
  fun m g _ => Cert.Kernel.Gen.frame m g, fun m g _ => Cert.KernelIdeal.Gen.frame m g, fun m g _ => Cert.KernelIdeal.Gen.frame m g,
  frame_reference, fun m g _ => frame_reference m g trivial, trivial, Algebraic.algebraic⟩

end Cert.Proof

end
